-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv" .f32 0x3F7FFFAC#32 (((Real.sqrt (2097173 / 2097152))⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S50000x256 : Shape := ⟨2, ![50000, 256]⟩
abbrev S2x1600000 : Shape := ⟨2, ![2, 1600000]⟩
abbrev S50000 : Shape := ⟨1, ![50000]⟩
abbrev S1x256 : Shape := ⟨2, ![1, 256]⟩
abbrev S256x512 : Shape := ⟨2, ![256, 512]⟩
abbrev S512 : Shape := ⟨1, ![512]⟩
abbrev S512x256 : Shape := ⟨2, ![512, 256]⟩
abbrev S256 : Shape := ⟨1, ![256]⟩
abbrev S_ : Shape := ⟨0, ![]⟩
abbrev S58016 : Shape := ⟨1, ![58016]⟩
abbrev S4x1x14504 : Shape := ⟨3, ![4, 1, 14504]⟩
abbrev S4x128x256 : Shape := ⟨3, ![4, 128, 256]⟩
abbrev S1x1x14504 : Shape := ⟨3, ![1, 1, 14504]⟩
abbrev S14504x256 : Shape := ⟨2, ![14504, 256]⟩
abbrev S1x128x256 : Shape := ⟨3, ![1, 128, 256]⟩
abbrev S14504 : Shape := ⟨1, ![14504]⟩
abbrev S14504x1 : Shape := ⟨2, ![14504, 1]⟩
abbrev S128x14504 : Shape := ⟨2, ![128, 14504]⟩
abbrev S1x14504 : Shape := ⟨2, ![1, 14504]⟩
abbrev S128x256 : Shape := ⟨2, ![128, 256]⟩
abbrev S1x512 : Shape := ⟨2, ![1, 512]⟩
abbrev S128x512 : Shape := ⟨2, ![128, 512]⟩

abbrev nBuf : Space → Nat
  | .hbm => 25
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S50000, .i32⟩
  | .hbm, ⟨3, _⟩ => ⟨S1x256, .f32⟩
  | .hbm, ⟨4, _⟩ => ⟨S256x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S_, .i32⟩
  | .hbm, ⟨13, _⟩ => ⟨S_, .i32⟩
  | .hbm, ⟨14, _⟩ => ⟨S58016, .i32⟩
  | .hbm, ⟨15, _⟩ => ⟨S4x1x14504, .i32⟩
  | .hbm, ⟨16, _⟩ => ⟨S50000x256, .f32⟩
  | .hbm, ⟨17, _⟩ => ⟨S4x128x256, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S128x256, .f32⟩
  | .local _ .vmem, ⟨0, _⟩ => ⟨S1x1x14504, .i32⟩
  | .local _ .vmem, ⟨1, _⟩ => ⟨S1x1x14504, .i32⟩
  | .local _ .vmem, ⟨2, _⟩ => ⟨S14504x256, .f32⟩
  | .local _ .vmem, ⟨3, _⟩ => ⟨S14504x256, .f32⟩
  | .local _ .vmem, ⟨4, _⟩ => ⟨S1x256, .f32⟩
  | .local _ .vmem, ⟨5, _⟩ => ⟨S14504x256, .f32⟩
  | .local _ .vmem, ⟨6, _⟩ => ⟨S14504x256, .f32⟩
  | .local _ .vmem, ⟨7, _⟩ => ⟨S1x128x256, .f32⟩
  | .local _ .vmem, ⟨8, _⟩ => ⟨S1x128x256, .f32⟩
  | .local _ .vmem, ⟨9, _⟩ => ⟨S4x128x256, .f32⟩
  | .local _ .vmem, ⟨10, _⟩ => ⟨S1x256, .f32⟩
  | .local _ .vmem, ⟨11, _⟩ => ⟨S256x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S128x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_v2_0 : Ref sig .tc := ⟨.hbm, 16, rfl⟩
abbrev main_v2_1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x14504 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S14504x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S14504x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := .none

abbrev stage1_0 : Fin 1 → Memref sig .tc .vmem S4x128x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S512x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S128x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
-- ==== KernelIdeal.lean ====
variable {F : FTy → Type} [FloatOps F] [Named F]
def κ : String → Option EReal := fun
  | "inv" => some (((Real.sqrt (2097173 / 2097152))⁻¹ : ℝ) : EReal)
  | _ => none
-- ==== ReferenceIdeal.lean ====
abbrev S50000x256 : Shape := ⟨2, ![50000, 256]⟩
abbrev S2x1600000 : Shape := ⟨2, ![2, 1600000]⟩
abbrev S50000 : Shape := ⟨1, ![50000]⟩
abbrev S1x256 : Shape := ⟨2, ![1, 256]⟩
abbrev S256x512 : Shape := ⟨2, ![256, 512]⟩
abbrev S512 : Shape := ⟨1, ![512]⟩
abbrev S512x256 : Shape := ⟨2, ![512, 256]⟩
abbrev S256 : Shape := ⟨1, ![256]⟩
abbrev S128x256 : Shape := ⟨2, ![128, 256]⟩
abbrev S_ : Shape := ⟨0, ![]⟩
abbrev S50000x1 : Shape := ⟨2, ![50000, 1]⟩
abbrev S128x512 : Shape := ⟨2, ![128, 512]⟩
abbrev S1x512 : Shape := ⟨2, ![1, 512]⟩

abbrev nBuf : Space → Nat
  | .hbm => 65
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S50000, .i32⟩
  | .hbm, ⟨3, _⟩ => ⟨S1x256, .f32⟩
  | .hbm, ⟨4, _⟩ => ⟨S256x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S128x256, .f32⟩
  | .hbm, ⟨14, _⟩ => ⟨S_, .i32⟩
  | .hbm, ⟨15, _⟩ => ⟨S50000, .i32⟩
  | .hbm, ⟨16, _⟩ => ⟨S50000, .i1⟩
  | .hbm, ⟨17, _⟩ => ⟨S_, .i32⟩
  | .hbm, ⟨18, _⟩ => ⟨S50000, .i32⟩
  | .hbm, ⟨19, _⟩ => ⟨S50000, .i32⟩
  | .hbm, ⟨20, _⟩ => ⟨S50000, .i32⟩
  | .hbm, ⟨21, _⟩ => ⟨S50000x1, .i32⟩
  | .hbm, ⟨22, _⟩ => ⟨S50000x256, .f32⟩
  | .hbm, ⟨23, _⟩ => ⟨S50000x256, .f32⟩
  | .hbm, ⟨24, _⟩ => ⟨S_, .f32⟩
  | .hbm, ⟨25, _⟩ => ⟨S128x256, .f32⟩
  | .hbm, ⟨26, _⟩ => ⟨S50000x1, .i32⟩
  | .hbm, ⟨27, _⟩ => ⟨S128x256, .f32⟩
  | .hbm, ⟨28, _⟩ => ⟨S128x256, .f32⟩
  | .hbm, ⟨29, _⟩ => ⟨S128x512, .f32⟩
  | .hbm, ⟨30, _⟩ => ⟨S1x512, .f32⟩
  | .hbm, ⟨31, _⟩ => ⟨S128x512, .f32⟩
  | .hbm, ⟨32, _⟩ => ⟨S128x512, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S128x512, .f32⟩
  | .hbm, ⟨37, _⟩ => ⟨S128x512, .f32⟩
  | .hbm, ⟨38, _⟩ => ⟨S1x512, .f32⟩
  | .hbm, ⟨39, _⟩ => ⟨S128x512, .f32⟩
  | .hbm, ⟨40, _⟩ => ⟨S128x512, .f32⟩
  | .hbm, ⟨41, _⟩ => ⟨S1x512, .f32⟩
  | .hbm, ⟨42, _⟩ => ⟨S128x512, .f32⟩
  | .hbm, ⟨43, _⟩ => ⟨S128x512, .f32⟩
  | .hbm, ⟨44, _⟩ => ⟨S_, .f32⟩
  | .hbm, ⟨45, _⟩ => ⟨S128x512, .f32⟩
  | .hbm, ⟨46, _⟩ => ⟨S128x512, .f32⟩
  | .hbm, ⟨47, _⟩ => ⟨S128x256, .f32⟩
  | .hbm, ⟨48, _⟩ => ⟨S1x256, .f32⟩
  | .hbm, ⟨49, _⟩ => ⟨S128x256, .f32⟩
  | .hbm, ⟨50, _⟩ => ⟨S128x256, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S128x256, .f32⟩
  | .hbm, ⟨55, _⟩ => ⟨S128x256, .f32⟩
  | .hbm, ⟨56, _⟩ => ⟨S1x256, .f32⟩
  | .hbm, ⟨57, _⟩ => ⟨S128x256, .f32⟩
  | .hbm, ⟨58, _⟩ => ⟨S128x256, .f32⟩
  | .hbm, ⟨59, _⟩ => ⟨S1x256, .f32⟩
  | .hbm, ⟨60, _⟩ => ⟨S128x256, .f32⟩
  | .hbm, ⟨61, _⟩ => ⟨S128x256, .f32⟩
  | .hbm, ⟨62, _⟩ => ⟨S_, .f32⟩
  | .hbm, ⟨63, _⟩ => ⟨S128x256, .f32⟩
  | .hbm, ⟨64, _⟩ => ⟨S128x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call1_cst : Ref sig .tc := ⟨.hbm, 62, rfl⟩
abbrev main_call1_v0 : Ref sig .tc := ⟨.hbm, 63, rfl⟩
abbrev main_v43 : Ref sig .tc := ⟨.hbm, 64, rfl⟩

abbrev nD : Nat := 1
abbrev τ : Topo := Topo.v7x

variable {F : FTy → Type} [FloatOps F]
-- ==== Proof.IdealMask.lean ====
/- The row mask of the first kernel body: which rows of a block lie inside the 50000-row array, and why a body that
   masks the others out does not depend on what the staging buffer holds there. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.ValueKit
public import Idealize.ShloMosaic.Lib.Pointwise
public import Idealize.ShloMosaic.Lib.WordCmp

@[expose] public section

set_option maxRecDepth 16384

noncomputable section

namespace Cert.KernelIdeal.Pool

open Idealize.ShloMosaic Idealize.ShloMosaic.TcCoe Idealize.SL.Sem
open Cert.KernelIdeal Cert.KernelIdeal.Gen

variable {F : FTy → Type} [FloatOps F] [Named F]

/-- The rows of the block at grid coordinates `i` that lie inside the array, as the body computes them. -/
def keepRows (i : grid0.Coords) : IVec S14504x256 1 :=
  broadcastTo S14504x256
    (shapeCast S14504x1
      (cmpi .slt
        (addi (iota .tc S14504x1 32 [0] iota_S14504x1_d0_w32)
          (broadcast S14504x1 (Scalar.muli (BitVec.ofNat 32 (i 0).val) 14504#32)))
        (broadcast S14504x1 50000#32))
      shapeCasts_S14504x1_S14504x1)
    broadcasts_S14504x1_S14504x256

/-- The 0/1 matrix whose entry `(g, r)` says that row `r` of the block carries the id `g`. -/
def oneHot (ids : Vec F S1x1x14504 .i32) : FVec F S128x14504 .f32 :=
  sitofp .f32 (extui 32 (cmpi .eq (iota .tc S128x14504 32 [0] iota_S128x14504_d0_w32)
    (broadcastTo S128x14504 (shapeCast S1x14504 (shapeCast S14504 ids shapeCasts_S1x1x14504_S14504) shapeCasts_S14504_S1x14504)
      broadcasts_S1x14504_S128x14504)) natLt_1_32)

/-- The block of `h` with the rows past the array's end replaced by zero. -/
def maskedRows (i : grid0.Coords) (vn : Vec F S1x256 .f32) (x : Vec F S14504x256 .f32) : FVec F S14504x256 .f32 :=
  select (keepRows i) (k0_pay1 vn x) (broadcast S14504x256 (Scalar.ofBits .f32 0x00000000#32))

/-- The second value the body stores is the one-hot matrix times the masked rows. -/
theorem pay2_eq (i : grid0.Coords) (vn : Vec F S1x256 .f32) (x : Vec F S14504x256 .f32) (ids : Vec F S1x1x14504 .i32) :
    k0_pay2 i vn x ids = shapeCast S1x128x256
      (matmul dot_S128x14504_S14504x256_S128x256_1_0_0_1_n_n none (oneHot ids) (maskedRows i vn x)
        (constant S128x256 .f32 0x00000000#32)) shapeCasts_S128x256_S1x128x256 := rfl

/-- Adding the 14504-row offset of block `i` to a row number does not wrap, so the signed comparison is the comparison
    of the numbers. -/
theorem slt_row (i r : ℕ) (hi : i < 4) (hr : r < 14504) :
    (BitVec.ofNat 32 r + BitVec.ofNat 32 i * 14504#32).slt 50000#32 = decide (i * 14504 + r < 50000) := by
  have e : BitVec.ofNat 32 r + BitVec.ofNat 32 i * 14504#32 = BitVec.ofNat 32 (i * 14504 + r) := by
    apply BitVec.eq_of_toNat_eq
    simp only [BitVec.toNat_add, BitVec.toNat_mul, BitVec.toNat_ofNat]
    omega
  rw [e]
  have h1 : (BitVec.ofNat 32 (i * 14504 + r)).toInt = (i * 14504 + r : ℕ) := by
    rw [BitVec.toInt_ofNat']; rw [Int.bmod_def]; norm_num; omega
  have h2 : (50000#32 : BitVec 32).toInt = 50000 := by decide
  rw [BitVec.slt, h1, h2]
  exact decide_eq_decide.mpr (by omega)

/-- The mask at row `r`: set exactly where the row lies inside the array. -/
theorem keepRows_at (i : grid0.Coords) (r : Fin 14504) (l : Fin 256) :
    keepRows i (ix2 r l) = if (i 0).val * 14504 + r.val < 50000 then 1#1 else 0#1 := by
  have hi : (i 0).val < 4 := (i 0).isLt
  pointwise [keepRows]
  change BitVec.ofBool ((BitVec.ofNat 32 r.val + BitVec.ofNat 32 (i 0).val * 14504#32).slt 50000#32) = _
  rw [slt_row _ _ hi r.isLt]
  by_cases h : (i 0).val * 14504 + r.val < 50000
  · rw [if_pos h, decide_eq_true h]; rfl
  · rw [if_neg h, decide_eq_false h]; rfl

/-- A row inside the array is one the fetch of window 1 brings in. -/
theorem moved_of_lt (i : grid0.Coords) (r : Fin 14504) (l : Fin 256) (h : (i 0).val * 14504 + r.val < 50000) :
    win0_1.moved i (ix2 r l : S14504x256.Idx) = true := by
  rw [Pipeline.Window.moved_iff]
  have hx : ∀ i0 : Fin 4, (Pipeline.Clip.of (BitVec.ofNat 32 i0.val).toNat 14504 50000).extent 14504
      = min 14504 (50000 - i0.val * 14504) := by decide
  have hy : (Pipeline.Clip.of 0 256 256).extent 256 = 256 := by decide
  intro a
  fin_cases a
  · change r.val < (Pipeline.Clip.of (BitVec.ofNat 32 (i 0).val).toNat 14504 50000).extent 14504
    rw [hx (i 0)]
    have hr := r.isLt
    omega
  · change l.val < (Pipeline.Clip.of 0 256 256).extent 256
    rw [hy]; exact l.isLt

/-- Two fillings of a block with the same part inside the array agree there. -/
theorem fill_agree (i : grid0.Coords) (d d' : Vec F S14504x256 .f32) (g : (win0_1.xblock i).Idx → Elt F .f32)
    (j : S14504x256.Idx) (h : win0_1.moved i j = true) : win0_1.fill i d g j = win0_1.fill i d' g j := by
  unfold Pipeline.Window.fill
  rw [dif_pos h, dif_pos h]

/-- The sum `x + vn` at an entry reads `x` at that entry only. -/
theorem pay1_at (vn : Vec F S1x256 .f32) (x : Vec F S14504x256 .f32) (r : Fin 14504) (l : Fin 256) :
    k0_pay1 vn x (ix2 r l) = FloatOps.addf (x (ix2 r l)) (vn (ix2 0 l)) := by
  pointwise [k0_pay1]

/-- The masked rows do not depend on what lies past the array's end. -/
theorem maskedRows_fill (i : grid0.Coords) (vn : Vec F S1x256 .f32) (d d' : Vec F S14504x256 .f32)
    (g : (win0_1.xblock i).Idx → Elt F .f32) :
    maskedRows i vn (win0_1.fill i d g) = maskedRows i vn (win0_1.fill i d' g) := by
  funext j
  have hj : j = ix2 (j 0) (j 1) := eq_ix2 j
  rw [hj]
  change Scalar.select (keepRows i (ix2 (j 0) (j 1))) (k0_pay1 vn (win0_1.fill i d g) (ix2 (j 0) (j 1))) _
    = Scalar.select (keepRows i (ix2 (j 0) (j 1))) (k0_pay1 vn (win0_1.fill i d' g) (ix2 (j 0) (j 1))) _
  by_cases h : (i 0).val * 14504 + (j 0).val < 50000
  · have e := fill_agree i d d' g (ix2 (j 0) (j 1)) (moved_of_lt i (j 0) (j 1) h)
    have e2 : k0_pay1 vn (win0_1.fill i d g) (ix2 (j 0) (j 1)) = k0_pay1 vn (win0_1.fill i d' g) (ix2 (j 0) (j 1)) :=
      ((pay1_at vn _ (j 0) (j 1)).trans (congrArg (FloatOps.addf · _) e)).trans (pay1_at vn _ (j 0) (j 1)).symm
    rw [e2]
  · rw [(keepRows_at i (j 0) (j 1)).trans (if_neg h)]
    rfl

/-- What the body stores for the pooled sums depends on the block only inside the array. -/
theorem pay2_fill (i : grid0.Coords) (vn : Vec F S1x256 .f32) (d d' : Vec F S14504x256 .f32)
    (g : (win0_1.xblock i).Idx → Elt F .f32) (ids : Vec F S1x1x14504 .i32) :
    k0_pay2 i vn (win0_1.fill i d g) ids = k0_pay2 i vn (win0_1.fill i d' g) ids := by
  rw [pay2_eq, pay2_eq, maskedRows_fill i vn d d' g]

/-- What the body stores for `h`, on the part the write-back moves, depends on the block only inside the array. -/
theorem cut_pay1_fill (i : grid0.Coords) (vn : Vec F S1x256 .f32) (d d' : Vec F S14504x256 .f32)
    (g : (win0_1.xblock i).Idx → Elt F .f32) :
    win0_3.cut i (k0_pay1 vn (win0_1.fill i d g)) = win0_3.cut i (k0_pay1 vn (win0_1.fill i d' g)) := by
  funext j
  have hm : win0_1.moved i (win0_3.xinj i j) = true := win0_3.moved_xinj i j
  have e := fill_agree i d d' g (win0_3.xinj i j) hm
  change k0_pay1 vn (win0_1.fill i d g) (win0_3.xinj i j) = k0_pay1 vn (win0_1.fill i d' g) (win0_3.xinj i j)
  generalize hq : win0_3.xinj i j = q at *
  change S14504x256.Idx at q
  obtain ⟨r, l, rfl⟩ : ∃ (r : Fin 14504) (l : Fin 256), q = ix2 r l := ⟨q 0, q 1, eq_ix2 q⟩
  rw [pay1_at, pay1_at, e]

end Cert.KernelIdeal.Pool

end
-- ==== Proof.IdealStream.lean ====
/- The first launch (`x + vn` streamed out block by block, and each block's pooled sums): its body's effect on the staging
   buffers, the pipeline's proof data, and the obligation the pipeline asks of the body. The last block overhangs the
   array, so the block of `x` and the block of `h` are described only on the rows inside it. -/
module

public import proofs.«01_k».proof.Proof.IdealMask
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

-- the buffers' contents when the launch is entered
variable (V : (c : Dev nD) → (b : Ref sig .tc) → Buf (Elt F) ((c : Thread nD τ).loc b))

/-- Window `w`'s block at point `t`, as its array holds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of `x` at point `t`, the rows past the array's end filled with zeros. -/
def xrows (c : Dev nD) (t : Fin cfg0.N) : Vec F S14504x256 .f32 :=
  win0_1.fill (grid0.coords t) (fun _ => Scalar.ofBits .f32 0#32) (iblk0 V c 1 t)

set_option maxHeartbeats 1000000 in
/-- The body on whole staging buffers: the three inputs keep what they hold, the block of `h` ends as `x + vn` and the
    pooled block as the one-hot product over the masked rows. -/
theorem sound_stream (c : Dev nD) (E : Set ℕ) (i : grid0.Coords)
    (arg1 : Memref sig .tc .vmem S1x1x14504 .i32) (harg1 : arg1.IsWhole) (arg2 : Memref sig .tc .vmem S14504x256 .f32) (harg2 : arg2.IsWhole)
    (arg3 : Memref sig .tc .vmem S1x256 .f32) (harg3 : arg3.IsWhole) (arg4 : Memref sig .tc .vmem S14504x256 .f32) (harg4 : arg4.IsWhole)
    (arg5 : Memref sig .tc .vmem S1x128x256 .f32) (harg5 : arg5.IsWhole)
    (ids : Vec F S1x1x14504 .i32) (x : Vec F S14504x256 .f32) (vn : Vec F S1x256 .f32) (K : PUnit → sProp 𝕄) :
    iprop(owns (c : Thread nD τ) arg1 fullShare ids ∗ owns (c : Thread nD τ) arg2 fullShare x ∗ owns (c : Thread nD τ) arg3 fullShare vn
        ∗ (∃ d, owns (c : Thread nD τ) arg4 fullShare d) ∗ (∃ d, owns (c : Thread nD τ) arg5 fullShare d)
        ∗ (iprop(owns (c : Thread nD τ) arg1 fullShare ids ∗ owns (c : Thread nD τ) arg2 fullShare x ∗ owns (c : Thread nD τ) arg3 fullShare vn
            ∗ owns (c : Thread nD τ) arg4 fullShare (k0_pay1 vn x) ∗ owns (c : Thread nD τ) arg5 fullShare (k0_pay2 i vn x ids)) -∗ K ⟨⟩))
      ⊢ wp frame (wpE (defs₀ (F := F)) Variants.none c none) E
          (cc0__stream i arg1 harg1 arg2 harg2 arg3 harg3 arg4 harg4 arg5 harg5) K := by
  simp only [cc0__stream_eq_skeleton]; unfold cc0__stream_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ fun y => View.cover_of_tiled _ S14504x256.size (by rfl) y).trans ?_
    frame_out
  iexists _; isplitr
  swap; · iexact H4
  ipureintro
  refine (View.read_writes_eq_canon _ _ _ fun y => View.cover_of_tiled _ S1x128x256.size (by rfl) y).trans ?_
  frame_out

/-- The pipeline's proof data: the arrays as the launch finds them; after the body at point `t` each input's buffer at its
    block, the block of `h` at `x + vn` and the pooled block at its product; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => xrows V c t
    | ⟨2, _⟩ => iblk0 V c 2 t
    | ⟨3, _⟩ => k0_pay1 (iblk0 V c 2 t) (xrows V c t)
    | ⟨4, _⟩ => k0_pay2 (grid0.coords t) (iblk0 V c 2 t) (xrows V c t) (iblk0 V c 0 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves in the buffer of the block of ids, -/
theorem after0_0 (c : Dev nD) (t : Fin cfg0.N) : (dat0 V c).after 0 t = iblk0 V c 0 t := by dsimp only [dat0]
/-- in that of the block of `x`, -/
theorem after0_1 (c : Dev nD) (t : Fin cfg0.N) : (dat0 V c).after 1 t = xrows V c t := by dsimp only [dat0]
/-- in that of the virtual node's row, -/
theorem after0_2 (c : Dev nD) (t : Fin cfg0.N) : (dat0 V c).after 2 t = iblk0 V c 2 t := by dsimp only [dat0]
/-- in that of the block of `h`, -/
theorem after0_3 (c : Dev nD) (t : Fin cfg0.N) :
    (dat0 V c).after 3 t = k0_pay1 (iblk0 V c 2 t) (xrows V c t) := by dsimp only [dat0]
/-- and in that of the pooled block. -/
theorem after0_4 (c : Dev nD) (t : Fin cfg0.N) :
    (dat0 V c).after 4 t = k0_pay2 (grid0.coords t) (iblk0 V c 2 t) (xrows V c t) (iblk0 V c 0 t) := by dsimp only [dat0]

/-- The block of ids is in its buffer when the body runs. -/
theorem before0_0 (c : Dev nD) (t : Fin cfg0.N) (d) : (dat0 V c).before 0 t d = iblk0 V c 0 t := by
  refine ((dat0 V c).before_in_eq_fetched 0 rfl (fun _ => rfl) (fun _ _ _ => rfl) (fun t => ?_) t d).trans ?_
  · rw [after0_0]; unfold Dat.blockOf iblk0; rw [A_eq0]
  · unfold Dat.fetched Dat.blockOf iblk0; rw [A_eq0]; rfl

/-- The block of `x` is in its buffer, on the rows inside the array; the others hold what they held. -/
theorem before0_1 (c : Dev nD) (t : Fin cfg0.N) (d) :
    (dat0 V c).before 1 t d = win0_1.fill (grid0.coords t) d (iblk0 V c 1 t) := by
  unfold Dat.before; rw [if_pos (fetch0_1 t)]; unfold Dat.fetched Dat.blockOf iblk0; rw [A_eq0]

/-- The virtual node's row is in its buffer, fetched there at the first point. -/
theorem before0_2 (c : Dev nD) (t : Fin cfg0.N) (d) : (dat0 V c).before 2 t d = iblk0 V c 2 t := by
  refine ((dat0 V c).before_in_eq_fetched 2 rfl (fun _ => rfl) (fun _ _ _ => rfl) (fun t => ?_) t d).trans ?_
  · rw [after0_2]; unfold Dat.blockOf iblk0; rw [A_eq0]
  · unfold Dat.fetched Dat.blockOf iblk0; rw [A_eq0]; rfl

/-- The body table's row at point `t`'s slots is the body. -/
theorem defs_row0 (t : Fin cfg0.N) :
    defs₀ (F := F) .tc cfg0.body (cfg0.bodyArgs t (cfg0.slots t)) = bodyAt0 t := by
  unfold defs₀; rw [Defs.onTc_tc]

/-- The obligation the pipeline asks of the body at every point. The two windows that may overhang their array are handed
    back described on the rows inside it. -/
theorem body_obligation0 (c : Dev nD) : BodyObligationLoose (dat0 (F := F) V c) (defs₀ (F := F)) Variants.none () Set.univ := fun t => by
  rw [bigSep_W0, bigSep_W0, defs_row0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩⟩
  rw [before0_0 V c t d0, before0_1 V c t d1, before0_2 V c t d2, after0_0, after0_2, after0_4]
  unfold bodyAt0
  iapply (sound_stream c Set.univ (grid0.coords t) _ _ _ _ _ _ _ _ _ _ (iblk0 V c 0 t)
    (win0_1.fill (grid0.coords t) d1 (iblk0 V c 1 t)) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]
  · iexists d1
    have e : (cfg0.win 1).cut (grid0.coords t) ((dat0 V c).after 1 t) = iblk0 V c 1 t := by
      rw [after0_1]; exact win0_1.cut_fill _ _ _
    rw [e]; iexact H1
  isplitl [H2]; · iexact H2
  isplitl [H3]
  · iexists (k0_pay1 (iblk0 V c 2 t) (win0_1.fill (grid0.coords t) d1 (iblk0 V c 1 t)))
    have e : (cfg0.win 3).fill (grid0.coords t) (k0_pay1 (iblk0 V c 2 t) (win0_1.fill (grid0.coords t) d1 (iblk0 V c 1 t)))
        ((cfg0.win 3).cut (grid0.coords t) ((dat0 V c).after 3 t))
        = k0_pay1 (iblk0 V c 2 t) (win0_1.fill (grid0.coords t) d1 (iblk0 V c 1 t)) := by
      rw [after0_3]
      exact win0_3.fill_congr_cut _ (cut_pay1_fill _ _ _ _ _)
    rw [e]; iexact H3
  rw [pay2_fill (grid0.coords t) (iblk0 V c 2 t) d1 (fun _ => Scalar.ofBits .f32 0#32) (iblk0 V c 1 t) (iblk0 V c 0 t)]
  iexact H4

end Cert.KernelIdeal.Pool

end
-- ==== Proof.IdealFinalize.lean ====
/- The second launch (the two-layer network on the pooled sums): its body's effect on the staging buffers, the pipeline's
   proof data, and the obligation the pipeline asks of the body. One point; every block is its whole array. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.ValueKit
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents when the launch is entered
variable (V : (c : Dev nD) → (b : Ref sig .tc) → Buf (Elt F) ((c : Thread nD τ).loc b))

/-- Window `w`'s block, as its array holds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body stores, from the ten values it loads. -/
def mlp (p : Vec F S4x128x256 .f32) (vn : Vec F S1x256 .f32) (w1 : Vec F S256x512 .f32) (b1 : Vec F S1x512 .f32) (g1 : Vec F S1x512 .f32) (e1 : Vec F S1x512 .f32) (w2 : Vec F S512x256 .f32) (b2 : Vec F S1x256 .f32) (g2 : Vec F S1x256 .f32) (e2 : Vec F S1x256 .f32) : FVec F S128x256 .f32 :=
  k1_pay1 (k1_pay2 p vn w1 b1 g1 e1 w2 b2) g2 e2

set_option maxHeartbeats 1000000 in
/-- The body on whole staging buffers: the ten inputs keep what they hold and the result's ends as `mlp` of them. -/
theorem sound_finalize (c : Dev nD) (E : Set ℕ)
    (arg0 : Memref sig .tc .vmem S4x128x256 .f32) (harg0 : arg0.IsWhole) (arg1 : Memref sig .tc .vmem S1x256 .f32) (harg1 : arg1.IsWhole) (arg2 : Memref sig .tc .vmem S256x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S512x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S128x256 .f32) (harg10 : arg10.IsWhole)
    (p : Vec F S4x128x256 .f32) (vn : Vec F S1x256 .f32) (w1 : Vec F S256x512 .f32) (b1 : Vec F S1x512 .f32) (g1 : Vec F S1x512 .f32) (e1 : Vec F S1x512 .f32) (w2 : Vec F S512x256 .f32) (b2 : Vec F S1x256 .f32) (g2 : Vec F S1x256 .f32) (e2 : Vec F S1x256 .f32) (K : PUnit → sProp 𝕄) :
    iprop(owns (c : Thread nD τ) arg0 fullShare p ∗ owns (c : Thread nD τ) arg1 fullShare vn ∗ owns (c : Thread nD τ) arg2 fullShare w1 ∗ owns (c : Thread nD τ) arg3 fullShare b1 ∗ owns (c : Thread nD τ) arg4 fullShare g1 ∗ owns (c : Thread nD τ) arg5 fullShare e1 ∗ owns (c : Thread nD τ) arg6 fullShare w2 ∗ owns (c : Thread nD τ) arg7 fullShare b2 ∗ owns (c : Thread nD τ) arg8 fullShare g2 ∗ owns (c : Thread nD τ) arg9 fullShare e2 ∗ (∃ d, owns (c : Thread nD τ) arg10 fullShare d)
        ∗ (iprop(owns (c : Thread nD τ) arg0 fullShare p ∗ owns (c : Thread nD τ) arg1 fullShare vn ∗ owns (c : Thread nD τ) arg2 fullShare w1 ∗ owns (c : Thread nD τ) arg3 fullShare b1 ∗ owns (c : Thread nD τ) arg4 fullShare g1 ∗ owns (c : Thread nD τ) arg5 fullShare e1 ∗ owns (c : Thread nD τ) arg6 fullShare w2 ∗ owns (c : Thread nD τ) arg7 fullShare b2 ∗ owns (c : Thread nD τ) arg8 fullShare g2 ∗ owns (c : Thread nD τ) arg9 fullShare e2 ∗ owns (c : Thread nD τ) arg10 fullShare (mlp p vn w1 b1 g1 e1 w2 b2 g2 e2)) -∗ K ⟨⟩))
      ⊢ wp frame (wpE (defs₀ (F := F)) Variants.none c none) E
          (cc1__finalize arg0 harg0 arg1 harg1 arg2 harg2 arg3 harg3 arg4 harg4 arg5 harg5 arg6 harg6 arg7 harg7 arg8 harg8 arg9 harg9 arg10 harg10) K := by
  simp only [cc1__finalize_eq_skeleton]; unfold cc1__finalize_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  refine (View.read_writes_eq_canon _ _ _ fun y => View.cover_of_tiled _ S128x256.size (by rfl) y).trans ?_
  unfold mlp
  frame_out

/-- The pipeline's proof data: the arrays as the launch finds them; after the body each input's buffer at its block and the
    result's at `mlp` of them; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => mlp (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- After the body the buffer of the pooled blocks holds its block. -/
theorem after1_0 (c : Dev nD) (t : Fin cfg1.N) : (dat1 V c).after 0 t = iblk1 V c 0 t := by dsimp only [dat1]
/-- After the body the buffer of the virtual node's row holds its block. -/
theorem after1_1 (c : Dev nD) (t : Fin cfg1.N) : (dat1 V c).after 1 t = iblk1 V c 1 t := by dsimp only [dat1]
/-- After the body the buffer of the first weight matrix holds its block. -/
theorem after1_2 (c : Dev nD) (t : Fin cfg1.N) : (dat1 V c).after 2 t = iblk1 V c 2 t := by dsimp only [dat1]
/-- After the body the buffer of the first bias holds its block. -/
theorem after1_3 (c : Dev nD) (t : Fin cfg1.N) : (dat1 V c).after 3 t = iblk1 V c 3 t := by dsimp only [dat1]
/-- After the body the buffer of the first scale holds its block. -/
theorem after1_4 (c : Dev nD) (t : Fin cfg1.N) : (dat1 V c).after 4 t = iblk1 V c 4 t := by dsimp only [dat1]
/-- After the body the buffer of the first shift holds its block. -/
theorem after1_5 (c : Dev nD) (t : Fin cfg1.N) : (dat1 V c).after 5 t = iblk1 V c 5 t := by dsimp only [dat1]
/-- After the body the buffer of the second weight matrix holds its block. -/
theorem after1_6 (c : Dev nD) (t : Fin cfg1.N) : (dat1 V c).after 6 t = iblk1 V c 6 t := by dsimp only [dat1]
/-- After the body the buffer of the second bias holds its block. -/
theorem after1_7 (c : Dev nD) (t : Fin cfg1.N) : (dat1 V c).after 7 t = iblk1 V c 7 t := by dsimp only [dat1]
/-- After the body the buffer of the second scale holds its block. -/
theorem after1_8 (c : Dev nD) (t : Fin cfg1.N) : (dat1 V c).after 8 t = iblk1 V c 8 t := by dsimp only [dat1]
/-- After the body the buffer of the second shift holds its block. -/
theorem after1_9 (c : Dev nD) (t : Fin cfg1.N) : (dat1 V c).after 9 t = iblk1 V c 9 t := by dsimp only [dat1]
/-- After the body the result's buffer holds `mlp` of the ten blocks. -/
theorem after1_10 (c : Dev nD) (t : Fin cfg1.N) :
    (dat1 V c).after 10 t = mlp (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

/-- A buffer just fetched into holds what the fetch brings. -/
theorem before1_fetched (c : Dev nD) (w : Fin cfg1.W) {t : Fin cfg1.N} (h : (cfg1.win w).fetch t = true) (d) :
    (dat1 V c).before w t d = (dat1 V c).fetched w t d := by
  unfold Dat.before; rw [if_pos h]

/-- The buffer of the pooled blocks holds its block when the body runs. -/
theorem before1_0 (c : Dev nD) (t : Fin cfg1.N) (d) : (dat1 V c).before 0 t d = iblk1 V c 0 t :=
  (before1_fetched V c 0 (fetch1_0 t) d).trans (by unfold Dat.fetched Dat.blockOf iblk1; rw [A_eq1]; rfl)
/-- The buffer of the virtual node's row holds its block when the body runs. -/
theorem before1_1 (c : Dev nD) (t : Fin cfg1.N) (d) : (dat1 V c).before 1 t d = iblk1 V c 1 t :=
  (before1_fetched V c 1 (fetch1_1 t) d).trans (by unfold Dat.fetched Dat.blockOf iblk1; rw [A_eq1]; rfl)
/-- The buffer of the first weight matrix holds its block when the body runs. -/
theorem before1_2 (c : Dev nD) (t : Fin cfg1.N) (d) : (dat1 V c).before 2 t d = iblk1 V c 2 t :=
  (before1_fetched V c 2 (fetch1_2 t) d).trans (by unfold Dat.fetched Dat.blockOf iblk1; rw [A_eq1]; rfl)
/-- The buffer of the first bias holds its block when the body runs. -/
theorem before1_3 (c : Dev nD) (t : Fin cfg1.N) (d) : (dat1 V c).before 3 t d = iblk1 V c 3 t :=
  (before1_fetched V c 3 (fetch1_3 t) d).trans (by unfold Dat.fetched Dat.blockOf iblk1; rw [A_eq1]; rfl)
/-- The buffer of the first scale holds its block when the body runs. -/
theorem before1_4 (c : Dev nD) (t : Fin cfg1.N) (d) : (dat1 V c).before 4 t d = iblk1 V c 4 t :=
  (before1_fetched V c 4 (fetch1_4 t) d).trans (by unfold Dat.fetched Dat.blockOf iblk1; rw [A_eq1]; rfl)
/-- The buffer of the first shift holds its block when the body runs. -/
theorem before1_5 (c : Dev nD) (t : Fin cfg1.N) (d) : (dat1 V c).before 5 t d = iblk1 V c 5 t :=
  (before1_fetched V c 5 (fetch1_5 t) d).trans (by unfold Dat.fetched Dat.blockOf iblk1; rw [A_eq1]; rfl)
/-- The buffer of the second weight matrix holds its block when the body runs. -/
theorem before1_6 (c : Dev nD) (t : Fin cfg1.N) (d) : (dat1 V c).before 6 t d = iblk1 V c 6 t :=
  (before1_fetched V c 6 (fetch1_6 t) d).trans (by unfold Dat.fetched Dat.blockOf iblk1; rw [A_eq1]; rfl)
/-- The buffer of the second bias holds its block when the body runs. -/
theorem before1_7 (c : Dev nD) (t : Fin cfg1.N) (d) : (dat1 V c).before 7 t d = iblk1 V c 7 t :=
  (before1_fetched V c 7 (fetch1_7 t) d).trans (by unfold Dat.fetched Dat.blockOf iblk1; rw [A_eq1]; rfl)
/-- The buffer of the second scale holds its block when the body runs. -/
theorem before1_8 (c : Dev nD) (t : Fin cfg1.N) (d) : (dat1 V c).before 8 t d = iblk1 V c 8 t :=
  (before1_fetched V c 8 (fetch1_8 t) d).trans (by unfold Dat.fetched Dat.blockOf iblk1; rw [A_eq1]; rfl)
/-- The buffer of the second shift holds its block when the body runs. -/
theorem before1_9 (c : Dev nD) (t : Fin cfg1.N) (d) : (dat1 V c).before 9 t d = iblk1 V c 9 t :=
  (before1_fetched V c 9 (fetch1_9 t) d).trans (by unfold Dat.fetched Dat.blockOf iblk1; rw [A_eq1]; rfl)

/-- The body table's row at the point is the body. -/
theorem defs_row1 (t : Fin cfg1.N) :
    defs₀ (F := F) .tc cfg1.body (cfg1.bodyArgs t (cfg1.slots t)) = bodyAt1 t := by
  unfold defs₀; rw [Defs.onTc_tc]

/-- The obligation the pipeline asks of the body. -/
theorem body_obligation1 (c : Dev nD) : BodyObligation (dat1 (F := F) V c) (defs₀ (F := F)) Variants.none () Set.univ := fun t => by
  rw [bigSep_W1, bigSep_W1, defs_row1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before1_0 V c t d0, before1_1 V c t d1, before1_2 V c t d2, before1_3 V c t d3, before1_4 V c t d4, before1_5 V c t d5, before1_6 V c t d6, before1_7 V c t d7, before1_8 V c t d8, before1_9 V c t d9,
    after1_0, after1_1, after1_2, after1_3, after1_4, after1_5, after1_6, after1_7, after1_8, after1_9, after1_10]
  unfold bodyAt1
  iapply (sound_finalize c Set.univ _ _ _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.KernelIdeal.Pool

end
-- ==== Proof.IdealRun.lean ====
/- The whole run: the host's stretches of operations and the two launches in order, the buffers' contents at every boundary,
   and what every final state holds. -/
module

public import proofs.«01_k».proof.Proof.IdealStream
public import proofs.«01_k».proof.Proof.IdealFinalize
public import proofs.«01_k».proof.Proof.Gen.KernelIdeal.Regions

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at every boundary -/

/-- At the first launch's entry: after the host's padding and reshaping of the ids. -/
abbrev W3 (c : Dev nD) : Valuation τ sig (Elt F) := Gen.V3 m c

/-- The contents read at the references the launch names. -/
abbrev entry0 : (c : Dev nD) → (b : Ref sig .tc) → Buf (Elt F) ((c : Thread nD τ).loc b) := fun c b => W3 m c b

/-- After the first launch: its arrays at what the pipeline leaves, every other buffer as entered. -/
def W4 (c : Dev nD) : Valuation τ sig (Elt F) :=
  Pipeline.withArrays spec0 c (W3 m c) fun w => (dat0 (entry0 m) c).arrAt w cfg0.N

/-- An array of the first launch ends at what the pipeline leaves in it. -/
theorem W4_arr (c : Dev nD) (w : Fin cfg0.W) :
    W4 m c (Proc.devRef .tc (Pipeline.arrRef spec0 w)) = (dat0 (entry0 m) c).arrAt w cfg0.N := by
  unfold W4; exact Pipeline.withArrays_arr spec0 launch0.win.arr_inj c _ _ w

/-- A buffer that is no array of the first launch is left as it was. -/
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb

/-- A buffer that is no result of the first launch is left as it was: an input's array is never written back. -/
theorem W4_of (c : Dev nD) (r : Ref sig .tc) (h : ∀ w : Fin cfg0.W, Pipeline.arrRef spec0 w = r → (cfg0.win w).isOut = false) :
    W4 m c (Proc.devRef .tc r) = W3 m c (Proc.devRef .tc r) := by
  by_cases hw : ∃ w : Fin cfg0.W, Pipeline.arrRef spec0 w = r
  · obtain ⟨w, rfl⟩ := hw
    exact (W4_arr m c w).trans (((dat0 (entry0 m) c).arrAt_in w (h w rfl) _).trans (A_eq0 (entry0 m) c w))
  · exact W4_of_ne m c r fun w e => hw ⟨w, e⟩

/-- The contents after the first launch, read at references. -/
abbrev exit0 : (c : Dev nD) → (b : Ref sig .tc) → Buf (Elt F) ((c : Thread nD τ).loc b) := fun c b => W4 m c b

/-- Off its arrays the first launch changes nothing. -/
theorem exit0_rest (c : Dev nD) : ∀ b, b ∉ Finset.univ.image (Pipeline.arrRef spec0) → exit0 m c b = entry0 m c b :=
  fun b hb => W4_of_ne m c b fun w e => hb (Finset.mem_image.mpr ⟨w, Finset.mem_univ _, e⟩)

/-- At the second launch's entry: after the host's reshaping of the bias, scale and shift vectors. -/
abbrev W5 (c : Dev nD) : Valuation τ sig (Elt F) := StableHlo.after hostOps1 (W4 m c)

/-- A buffer the reshapes do not write is left as it was. -/
theorem W5_of (c : Dev nD) (r : Ref sig .tc) (h : r ∉ hostOps1_W) : W5 m c (Proc.devRef .tc r) = W4 m c (Proc.devRef .tc r) :=
  StableHlo.after_of_writes_sub hostOps1 _ hostOps1_writes h

/-- The contents read at the references the launch names. -/
abbrev entry1 : (c : Dev nD) → (b : Ref sig .tc) → Buf (Elt F) ((c : Thread nD τ).loc b) := fun c b => W5 m c b

/-- After the second launch: its arrays at what the pipeline leaves, every other buffer as entered. -/
def W6 (c : Dev nD) : Valuation τ sig (Elt F) :=
  Pipeline.withArrays spec1 c (W5 m c) fun w => (dat1 (entry1 m) c).arrAt w cfg1.N

/-- An array of the second launch ends at what the pipeline leaves in it. -/
theorem W6_arr (c : Dev nD) (w : Fin cfg1.W) :
    W6 m c (Proc.devRef .tc (Pipeline.arrRef spec1 w)) = (dat1 (entry1 m) c).arrAt w cfg1.N := by
  unfold W6; exact Pipeline.withArrays_arr spec1 launch1.win.arr_inj c _ _ w

/-- A buffer that is no array of the second launch is left as it was. -/
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb

/-- A buffer that is no result of the second launch is left as it was: an input's array is never written back. -/
theorem W6_of (c : Dev nD) (r : Ref sig .tc) (h : ∀ w : Fin cfg1.W, Pipeline.arrRef spec1 w = r → (cfg1.win w).isOut = false) :
    W6 m c (Proc.devRef .tc r) = W5 m c (Proc.devRef .tc r) := by
  by_cases hw : ∃ w : Fin cfg1.W, Pipeline.arrRef spec1 w = r
  · obtain ⟨w, rfl⟩ := hw
    exact (W6_arr m c w).trans (((dat1 (entry1 m) c).arrAt_in w (h w rfl) _).trans (A_eq1 (entry1 m) c w))
  · exact W6_of_ne m c r fun w e => hw ⟨w, e⟩

/-- The contents after the second launch, read at references. -/
abbrev exit1 : (c : Dev nD) → (b : Ref sig .tc) → Buf (Elt F) ((c : Thread nD τ).loc b) := fun c b => W6 m c b

/-- Off its arrays the second launch changes nothing. -/
theorem exit1_rest (c : Dev nD) : ∀ b, b ∉ Finset.univ.image (Pipeline.arrRef spec1) → exit1 m c b = entry1 m c b :=
  fun b hb => W6_of_ne m c b fun w e => hb (Finset.mem_image.mpr ⟨w, Finset.mem_univ _, e⟩)

/-- The argument arrays. -/
abbrev argRefs : List (Ref sig .tc) := [main_arg0, main_arg1, main_arg2, main_arg3, main_arg4, main_arg5, main_arg6, main_arg7, main_arg8, main_arg9, main_arg10, main_arg11]

/-- No stretch of host operations before the first launch writes an argument, -/
theorem args_host : ∀ a ∈ argRefs, a ∉ hostOps0_W ∧ a ∉ hostOps0_1_W ∧ a ∉ hostOps0_2_W ∧ a ∉ hostOps1_W :=
  ListAll.forall_mem_of_all_decide (by decide +kernel)
/-- and a launch names one only as an input. -/
theorem args_in0 : ∀ a ∈ argRefs, ∀ w : Fin cfg0.W, Pipeline.arrRef spec0 w = a → (cfg0.win w).isOut = false :=
  ListAll.forall_mem_of_all_decide (by decide +kernel)
/-- The same of the second launch. -/
theorem args_in1 : ∀ a ∈ argRefs, ∀ w : Fin cfg1.W, Pipeline.arrRef spec1 w = a → (cfg1.win w).isOut = false :=
  ListAll.forall_mem_of_all_decide (by decide +kernel)

/-- Every argument is at the first launch's entry as at the start, -/
theorem W3_args (c : Dev nD) : ∀ a ∈ argRefs, W3 m c (Proc.devRef .tc a) = m ((c : Thread nD τ).loc a) := fun a ha =>
  (V3_of m c a (args_host a ha).2.2.1).trans <| (V2_of m c a (args_host a ha).2.1).trans (V1_of m c a (args_host a ha).1)
/-- at the second's, -/
theorem W5_args (c : Dev nD) : ∀ a ∈ argRefs, W5 m c (Proc.devRef .tc a) = m ((c : Thread nD τ).loc a) := fun a ha =>
  (W5_of m c a (args_host a ha).2.2.2).trans <| (W4_of m c a (args_in0 a ha)).trans (W3_args m c a ha)
/-- and at the end. -/
theorem W6_args (c : Dev nD) : ∀ a ∈ argRefs, W6 m c (Proc.devRef .tc a) = m ((c : Thread nD τ).loc a) := fun a ha =>
  (W6_of m c a (args_in1 a ha)).trans (W5_args m c a ha)

/-! ## The segments -/

/-- Each pipeline's proof data, at its launch's entry contents. -/
def pdats : (p : Fin 2) → (c : Dev nD) → Dat τ (Elt F) Unit ℕ (UR sig nD τ) ℕ (Pipeline.pin (pcfgs (F := F)) adm p) c
  | ⟨0, _⟩ => fun c => dat0 (entry0 m) c
  | ⟨1, _⟩ => fun c => dat1 (entry1 m) c

/-- No core owes another anything: no level is assigned. -/
abbrev noLevels : GSem nD τ sig → Finset Unit := fun _ => ∅
/-- The levels themselves, all zero. -/
abbrev noLevel : GSem nD τ sig → Unit → ℕ := fun _ _ => 0

/-- What rides beside the buffers through every segment: the generator register at some state, and nothing owed. -/
abbrev rest (c : Dev nD) : sProp 𝕄 := iprop((∃ r, prngReg c r) ∗ ∃ W, owes (c : Thread nD τ) (0 : CellTallies nD τ sig Unit) W)

/-- A stretch of host operations as a segment. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- A reference outside every scope is among those the run's state holds. -/
theorem mem_held (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last state, but for what is owed: every buffer at `W6`, the generator register at some state. -/
abbrev lastState (c : Dev nD) : sProp 𝕄 :=
  iprop(StableHlo.held (c : Thread nD τ) (Pipeline.ucRefs τ sig) (W6 m c) ∗ ∃ r, prngReg c r)

set_option backward.isDefEq.respectTransparency.types false in
/-- The first launch as a segment: entered from every buffer at `W3`, left at `W4`. Its arrays are split out of the
    buffers and put back at what the pipeline leaves; the generator register goes into the invariant and comes out. -/
def reg0 : Pipeline.RegionSeg (pcfgs (F := F)) adm (pdats m) () defs₀ Variants.none noLevels noLevel 0 where
  win := launch0.win.to₀
  block_pos := launch0.block_pos
  stage_whole := launch0.stage_whole
  K := PEmpty
  osem k := k.elim
  ho := Pipeline.OwnSemFacts.none _
  hbody c := body_obligation0 (entry0 m) c
  hwaits := Pipeline.hwaits_of_owed_zero _ _ _ _ noLevels noLevel 0 fun _ _ => rfl
  pre c := iprop(StableHlo.held (c : Thread nD τ) (Pipeline.ucRefs τ sig) (W3 m c) ∗ rest c)
  post c := iprop(StableHlo.held (c : Thread nD τ) (Pipeline.ucRefs τ sig) (W4 m c) ∗ rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) (A_eq0 (entry0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (exit0 m c) ((pdats m 0 c).arrAt · cfg0.N) (fun w => (W4_arr m c w).symm) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch as a segment: entered from every buffer at `W5`, left at `W6`. Its arrays are split out of the
    buffers and put back at what the pipeline leaves; the generator register goes into the invariant and comes out. -/
def reg1 : Pipeline.RegionSeg (pcfgs (F := F)) adm (pdats m) () defs₀ Variants.none noLevels noLevel 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ noLevels noLevel 1 fun _ _ => rfl
  pre c := iprop(StableHlo.held (c : Thread nD τ) (Pipeline.ucRefs τ sig) (W5 m c) ∗ rest c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) (A_eq1 (entry1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (fun w => (W6_arr m c w).symm) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's segments in order. -/
abbrev chain : List (Pipeline.Seg (pcfgs (F := F)) adm (pdats m) () defs₀ Variants.none noLevels noLevel) :=
  [ .host (hostSeg hostOps0 hostOps0_sub hostOps0_fresh (Gen.V0 m)),
    .host (hostSeg hostOps0_1 hostOps0_1_sub hostOps0_1_fresh (Gen.V1 m)),
    .host (hostSeg hostOps0_2 hostOps0_2_sub hostOps0_2_fresh (Gen.V2 m)),
    .region (reg0 m),
    .host (hostSeg hostOps1 hostOps1_sub hostOps1_fresh (W4 m)),
    .region (reg1 m) ]

/-- The program is the run of its segments. -/
theorem main_chain_run (c : Dev nD) : main (F := F) c = Pipeline.Seg.run (chain m) := (main_chain c).trans (by chain_rfl)

set_option backward.isDefEq.respectTransparency.types false in
/-- Every fair execution terminates without a fault, and every final state holds every buffer outside the scopes at `W6`
    and every semaphore counter at zero. -/
theorem run_held : θ_run defs (onTc (τ := τ) (main (F := F))) ⟨m, fun _ => 0, ρ⟩ (fun r =>
    (∀ c : Dev nD, ∀ b ∈ Pipeline.ucRefs τ sig, r.2.mem ((c : Thread nD τ).1, b) = W6 m c b) ∧ r.2.sem = fun _ => 0) :=
  Pipeline.θ_run_regions_kit_sems (pcfgs (F := F)) adm (pdats m) () cellOf_inj emb₁ defs₀ Variants.none noLevels noLevel m ρ main (chain m)
    (fun c Q => by rw [main_chain_run m c])
    (by simp only [chain, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rest c)) (Tₙ := lastState m)
    (hch := ⟨fun _ => .rfl, fun _ => .rfl, fun _ => .rfl, fun _ => .rfl, fun _ => .rfl, fun _ => .rfl, fun _ => .rfl⟩)
    (hinit := by
      refine Pipeline.initEach noLevels noLevel fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h hz => ⟨h, funext fun g => hz g (.inr (regions_no_unscoped g.2))⟩)

/-- An argument at the end of a run is as launched. -/
theorem arg_kept {r : PUnit × MemSt nD τ sig (Elt F)}
    (h : ∀ c : Dev nD, ∀ b ∈ Pipeline.ucRefs τ sig, r.2.mem ((c : Thread nD τ).1, b) = W6 m c b) (c : Dev nD)
    (a : Ref sig .tc) (hu : ¬ (Proc.devRef .tc a : DevRef τ sig).isScoped) (ha : a ∈ argRefs) :
    r.2.mem ((c.tc : Thread nD τ).loc a) = m ((c.tc : Thread nD τ).loc a) :=
  (h c _ (mem_held a hu)).trans (W6_args m c a ha)

/-- Every fair execution terminates without a fault, every argument ends as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c =>
    ⟨arg_kept m h.1 c main_arg0 (by decide) (by decide),
     arg_kept m h.1 c main_arg1 (by decide) (by decide),
     arg_kept m h.1 c main_arg2 (by decide) (by decide),
     arg_kept m h.1 c main_arg3 (by decide) (by decide),
     arg_kept m h.1 c main_arg4 (by decide) (by decide),
     arg_kept m h.1 c main_arg5 (by decide) (by decide),
     arg_kept m h.1 c main_arg6 (by decide) (by decide),
     arg_kept m h.1 c main_arg7 (by decide) (by decide),
     arg_kept m h.1 c main_arg8 (by decide) (by decide),
     arg_kept m h.1 c main_arg9 (by decide) (by decide),
     arg_kept m h.1 c main_arg10 (by decide) (by decide),
     arg_kept m h.1 c main_arg11 (by decide) (by decide)⟩, h.2⟩) (run_held m ρ)

end Cert.KernelIdeal.Pool

end
-- ==== Proof.IdealPayload.lean ====
/- What the two bodies store, over the extended reals, read at an entry. -/
module

public import proofs.«01_k».proof.Proof.IdealMask
public import proofs.«01_k».proof.Proof.IdealFinalize
public import Idealize.ShloMosaic.PureOps.IdealRules

@[expose] public section

set_option maxRecDepth 16384

noncomputable section

namespace Cert.KernelIdeal.Pool

open Cert.KernelIdeal Cert.KernelIdeal.Gen
open Idealize.ShloMosaic Idealize.ShloMosaic.TcCoe

/-- The reciprocal of the normalisation's root, which the kernel names. -/
abbrev invRoot : EReal := (((Real.sqrt (2097173 / 2097152))⁻¹ : ℝ) : EReal)

/-- The named constant is that real. -/
theorem named_inv : Named.named (F := Ideal) κ "inv" (φ := .f32) 0x3F7FFFAC#32 = invRoot :=
  IdealRules.named_const.ideal_named_scalar _ _ _ _ rfl

/-- The one-hot matrix at an entry. -/
theorem oneHot_at (ids : Vec Ideal S1x1x14504 .i32) (g : Fin 128) (r : Fin 14504) :
    oneHot (F := Ideal) ids (ix2 g r) = if ids (ix3 0 0 r) = BitVec.ofNat 32 g.val then (1 : EReal) else 0 := by
  pointwise [oneHot]
  change ((((BitVec.setWidth 32 (IntOp.cmpi CmpIPredicate.eq (BitVec.ofNat 32 g.val) (ids (ix3 0 0 r)))).toInt : ℤ) : ℝ) : EReal) = _
  have e : IntOp.cmpi CmpIPredicate.eq (BitVec.ofNat 32 g.val) (ids (ix3 0 0 r)) = if ids (ix3 0 0 r) = BitVec.ofNat 32 g.val then 1#1 else 0#1 := by
    by_cases h : ids (ix3 0 0 r) = BitVec.ofNat 32 g.val
    · rw [if_pos h, h]; simp [IntOp.cmpi]
    · rw [if_neg h]
      have h2 : ¬ BitVec.ofNat 32 g.val = ids (ix3 0 0 r) := fun e => h e.symm
      change BitVec.ofBool (BitVec.ofNat 32 g.val == ids (ix3 0 0 r)) = 0#1
      rw [beq_false_of_ne h2]; rfl
  rw [e]
  by_cases h : ids (ix3 0 0 r) = BitVec.ofNat 32 g.val
  · rw [if_pos h, if_pos h]; simp
  · rw [if_neg h, if_neg h]; simp

/-- The masked rows at an entry. -/
theorem maskedRows_at (i : grid0.Coords) (vn : FVec Ideal S1x256 .f32) (x : FVec Ideal S14504x256 .f32) (r : Fin 14504) (l : Fin 256) :
    maskedRows i vn x (ix2 r l) = if (i 0).val * 14504 + r.val < 50000 then (x (ix2 r l) + vn (ix2 0 l) : EReal) else 0 := by
  change Scalar.select (keepRows i (ix2 r l)) (k0_pay1 vn x (ix2 r l)) (Ideal.ofBits .f32 0x00000000#32) = _
  rw [keepRows_at, pay1_at]
  by_cases h : (i 0).val * 14504 + r.val < 50000
  · rw [if_pos h, if_pos h]; rfl
  · rw [if_neg h, if_neg h]; exact Ideal.ofBits_zero .f32

/-- The sums a block contributes at an entry. -/
theorem pay2_at (i : grid0.Coords) (vn : FVec Ideal S1x256 .f32) (x : FVec Ideal S14504x256 .f32) (ids : Vec Ideal S1x1x14504 .i32)
    (g : Fin 128) (l : Fin 256) :
    k0_pay2 i vn x ids (ix3 0 g l) = ∑ r : Fin 14504,
      if ids (ix3 0 0 r) = BitVec.ofNat 32 g.val ∧ (i 0).val * 14504 + r.val < 50000 then (x (ix2 r l) + vn (ix2 0 l) : EReal) else 0 := by
  rw [pay2_eq]
  pointwise []
  refine Finset.sum_congr rfl fun r _ => ?_
  rw [oneHot_at, maskedRows_at]
  by_cases h : ids (ix3 0 0 r) = BitVec.ofNat 32 g.val
  · by_cases h' : (i 0).val * 14504 + r.val < 50000
    · rw [if_pos h, if_pos h', if_pos ⟨h, h'⟩, one_mul]
    · rw [if_neg h', mul_zero, if_neg fun e => h' e.2]
  · rw [if_neg h, zero_mul, if_neg fun e => h e.1]

/-- The pooled rows the second body forms from the blocks' sums. -/
def pooledOf (p : FVec Ideal S4x128x256 .f32) (vn : FVec Ideal S1x256 .f32) (g : Fin 128) (l : Fin 256) : EReal :=
  (∑ b : Fin 4, p (ix3 b g l)) + vn (ix2 0 l)

/-- The first layer at an entry, over pooled rows. -/
def hiddenOf (q : Fin 128 → Fin 256 → EReal) (w1 : FVec Ideal S256x512 .f32) (b1 g1 e1 : FVec Ideal S1x512 .f32) (g : Fin 128) (k : Fin 512) : EReal :=
  max (((∑ l : Fin 256, q g l * w1 (ix2 l k)) + b1 (ix2 0 k)) * (g1 (ix2 0 k) * invRoot) + e1 (ix2 0 k)) 0

/-- The second body's stored value at an entry. -/
theorem mlp_at (p : FVec Ideal S4x128x256 .f32) (vn : FVec Ideal S1x256 .f32) (w1 : FVec Ideal S256x512 .f32) (b1 g1 e1 : FVec Ideal S1x512 .f32)
    (w2 : FVec Ideal S512x256 .f32) (b2 g2 e2 : FVec Ideal S1x256 .f32) (g : Fin 128) (o : Fin 256) :
    mlp (F := Ideal) p vn w1 b1 g1 e1 w2 b2 g2 e2 (ix2 g o)
      = max (((∑ k : Fin 512, hiddenOf (pooledOf p vn) w1 b1 g1 e1 g k * w2 (ix2 k o)) + b2 (ix2 0 o)) * (g2 (ix2 0 o) * invRoot)
          + e2 (ix2 0 o)) 0 := by
  unfold hiddenOf pooledOf
  pointwise [mlp, k1_pay1, k1_pay2]
  rw [named_inv]

end Cert.KernelIdeal.Pool

end
-- ==== Proof.IdealArrays.lean ====
/- What the first launch leaves in its two result arrays, over the extended reals, in terms of the arrays it is entered with. -/
module

public import proofs.«01_k».proof.Proof.IdealStream
public import proofs.«01_k».proof.Proof.IdealPayload
public import Idealize.ShloMosaic.Lib.Pipeline.ValueKit

@[expose] public section

set_option maxRecDepth 16384

noncomputable section

namespace Cert.KernelIdeal.Pool

open Cert.KernelIdeal Cert.KernelIdeal.Gen
open Idealize.ShloMosaic Idealize.ShloMosaic.TcCoe
open Idealize.ShloMosaic.Pipeline (Dat)

variable (V : (c : Dev nD) → (b : Ref sig .tc) → Buf (Elt Ideal) ((c : Thread nD τ).loc b))

/-- The first launch's index maps: the row windows and the ids move with the point, the virtual node's row does not. -/
theorem index0 : ∀ t : Fin cfg0.N, win0_0.index t = ![t.val, 0, 0] ∧ win0_1.index t = ![t.val, 0] ∧ win0_2.index t = ![0, 0]
    ∧ win0_3.index t = ![t.val, 0] ∧ win0_4.index t = ![t.val, 0, 0] ∧ (grid0.coords t 0).val = t.val ∧ t.val < 4 :=
  (by decide +kernel : ∀ t : Fin grid0.N, _)

/-- A row of the block inside the array is the array's row. -/
theorem xrows_at (c : Dev nD) (t : Fin cfg0.N) (r : Fin 14504) (l : Fin 256) (h : t.val * 14504 + r.val < 50000) :
    xrows V c t (ix2 r l) = V c main_arg0 (ix2 (⟨t.val * 14504 + r.val, h⟩ : Fin 50000) l) := by
  have hm : win0_1.moved (grid0.coords t) (ix2 r l : S14504x256.Idx) = true :=
    moved_of_lt _ r l (by rw [(index0 t).2.2.2.2.2.1]; exact h)
  unfold xrows Pipeline.Window.fill
  rw [dif_pos hm]
  blk_ext [iblk0, index0 t]

/-- The block of the virtual node's row is the whole row. -/
theorem vblock (c : Dev nD) (t : Fin cfg0.N) : iblk0 V c 2 t = V c main_arg3 := by
  blk_ext! [iblk0, index0 t]

/-- The block of ids at an entry. -/
theorem ids_at (c : Dev nD) (t : Fin cfg0.N) (r : Fin 14504) :
    iblk0 V c 0 t (ix3 0 0 r) = V c main_v1 (ix3 (⟨t.val, (index0 t).2.2.2.2.2.2⟩ : Fin 4) 0 r) := by
  blk_ext [iblk0, index0 t]

/-- Every row plus one row. -/
def addRow (x : FVec Ideal S50000x256 .f32) (vn : FVec Ideal S1x256 .f32) : FVec Ideal S50000x256 .f32 :=
  fun i => (x (ix2 (i 0) (i 1)) + vn (ix2 0 (i 1)) : EReal)

/-- The sums block `b` contributes: over its rows inside the array that carry the graph's id. -/
def blockSums (x : FVec Ideal S50000x256 .f32) (vn : FVec Ideal S1x256 .f32) (ids : IVec S4x1x14504 32) : FVec Ideal S4x128x256 .f32 :=
  fun i => ∑ r : Fin 14504, if h : (i 0).val * 14504 + r.val < 50000 then
    (if ids (ix3 (i 0) 0 r) = BitVec.ofNat 32 (i 1).val
      then (x (ix2 (⟨(i 0).val * 14504 + r.val, h⟩ : Fin 50000) (i 2)) + vn (ix2 0 (i 2)) : EReal) else 0) else 0

/-- What the body stores for `h` at the block entry `k` is the row sum at the array entry `k` sits at. -/
theorem rows_point (c : Dev nD) (t : Fin cfg0.N) (k : S14504x256.Idx) (i : S50000x256.Idx)
    (e0 : (i 0).val = t.val * 14504 + (k 0).val) (e1 : (i 1).val = (k 1).val) :
    k0_pay1 (iblk0 V c 2 t) (xrows V c t) k = addRow (V c main_arg0) (V c main_arg3) i := by
  have h : t.val * 14504 + (k 0).val < 50000 := e0 ▸ (i 0).isLt
  rw [eq_ix2 k, vblock]
  refine (pay1_at _ _ (k 0) (k 1)).trans ?_
  rw [xrows_at V c t (k 0) (k 1) h]
  have h0 : (⟨t.val * 14504 + (k 0).val, h⟩ : Fin 50000) = i 0 := Fin.ext e0.symm
  have h1 : k 1 = i 1 := Fin.ext e1.symm
  rw [h0, h1]
  rfl

/-- What the body stores for the sums at the block entry `y` is the block's sum at the array entry `y` sits at. -/
theorem sums_point (c : Dev nD) (t : Fin cfg0.N) (y : S1x128x256.Idx) (i : S4x128x256.Idx)
    (e0 : (i 0).val = t.val) (e1 : (i 1).val = (y 1).val) (e2 : (i 2).val = (y 2).val) :
    k0_pay2 (grid0.coords t) (iblk0 V c 2 t) (xrows V c t) (iblk0 V c 0 t) y
      = blockSums (V c main_arg0) (V c main_arg3) (V c main_v1) i := by
  have hy : y = ix3 0 (i 1) (i 2) := by
    funext a; refine Fin.ext ?_
    match a with
    | ⟨0, _⟩ => have := (y 0).isLt; change (y 0).val = 0; change (y 0).val < 1 at this; omega
    | ⟨1, _⟩ => exact e1.symm
    | ⟨2, _⟩ => exact e2.symm
  rw [hy, vblock]
  refine (pay2_at _ _ _ _ (i 1) (i 2)).trans (Finset.sum_congr rfl fun r _ => ?_)
  have h0 : (⟨t.val, (index0 t).2.2.2.2.2.2⟩ : Fin 4) = i 0 := Fin.ext e0.symm
  rw [ids_at, h0, (index0 t).2.2.2.2.2.1, ← e0]
  by_cases h : (i 0).val * 14504 + r.val < 50000
  · rw [dif_pos h, xrows_at V c t r (i 2) (e0 ▸ h)]
    by_cases h' : V c main_v1 (ix3 (i 0) 0 r) = BitVec.ofNat 32 (i 1).val
    · rw [if_pos ⟨h', h⟩, if_pos h']
      have hr : (⟨t.val * 14504 + r.val, e0 ▸ h⟩ : Fin 50000) = ⟨(i 0).val * 14504 + r.val, h⟩ := Fin.ext (congrArg (fun b => b * 14504 + r.val) e0.symm)
      rw [hr]
    · rw [if_neg fun e => h' e.1, if_neg h']
  · rw [dif_neg h, if_neg fun e => h e.2]

/-- The first result array after the launch. -/
theorem rows_final (c : Dev nD) : (dat0 V c).arrAt 3 cfg0.N = addRow (V c main_arg0) (V c main_arg3) := by
  refine (dat0 V c).arrAt_eq_of_covers 3 _ (by decide +kernel) fun t _ y => ?_
  rw [after0_3]
  blk_simp [index0 t]
  have e0 : ((win0_3.blk t).view.emb y 0).val = t.val * 14504 + (y 0).val := by blk_simp [index0 t]
  have e1 : ((win0_3.blk t).view.emb y 1).val = (y 1).val :=
    win0_3.rect_emb_val_of_index_zero t 1 (congrFun (index0 t).2.2.2.1 1) y
  generalize (win0_3.blk t).view.emb y = i at e0 e1 ⊢
  have k0 : ((cfg0.win 3).xinj (cfg0.grid.coords t) y 0).val = (y 0).val := rfl
  have k1 : ((cfg0.win 3).xinj (cfg0.grid.coords t) y 1).val = (y 1).val := rfl
  generalize (cfg0.win 3).xinj (cfg0.grid.coords t) y = k at k0 k1 ⊢
  exact rows_point V c t k i (by rw [e0, k0]) (by rw [e1, k1])

/-- The blocks' sums after the launch. -/
theorem sums_final (c : Dev nD) : (dat0 V c).arrAt 4 cfg0.N = blockSums (V c main_arg0) (V c main_arg3) (V c main_v1) := by
  refine (dat0 V c).arrAt_eq_of_covers 4 _ (by decide +kernel) fun t _ y => ?_
  rw [after0_4]
  blk_simp [index0 t]
  have e0 : ((win0_4.blk t).view.emb y 0).val = t.val := by blk_simp [index0 t]
  have e1 : ((win0_4.blk t).view.emb y 1).val = (y 1).val := by blk_simp [index0 t]
  have e2 : ((win0_4.blk t).view.emb y 2).val = (y 2).val := by blk_simp [index0 t]
  generalize (win0_4.blk t).view.emb y = i at e0 e1 e2 ⊢
  exact sums_point V c t y i e0 e1 e2

end Cert.KernelIdeal.Pool

end
-- ==== Proof.IdealResult.lean ====
/- What a run leaves in the kernel's two results, over the extended reals, in terms of the arguments. -/
module

public import proofs.«01_k».proof.Proof.IdealArrays
public import proofs.«01_k».proof.Proof.IdealRun
public import Idealize.ShloMosaic.Lib.StableHlo.Run
public import Idealize.ShloMosaic.Lib.KernelVsHost
public import Idealize.ShloMosaic.Lib.Claim

@[expose] public section

set_option maxRecDepth 16384

noncomputable section

namespace Cert.KernelIdeal.Pool

open Cert.KernelIdeal Cert.KernelIdeal.Gen
open Idealize.ShloMosaic Idealize.ShloMosaic.TcCoe Idealize.ShloMosaic.StableHlo
open Idealize.ShloMosaic.Pipeline (Dat)

/-! ## The second launch -/

/-- The second launch has one point, so every index map is zero. -/
theorem index1 : ∀ t : Fin cfg1.N, win1_0.index t = ![0, 0, 0] ∧ win1_1.index t = ![0, 0] ∧ win1_2.index t = ![0, 0]
    ∧ win1_3.index t = ![0, 0] ∧ win1_4.index t = ![0, 0] ∧ win1_5.index t = ![0, 0] ∧ win1_6.index t = ![0, 0]
    ∧ win1_7.index t = ![0, 0] ∧ win1_8.index t = ![0, 0] ∧ win1_9.index t = ![0, 0] ∧ win1_10.index t = ![0, 0] :=
  (by decide +kernel : ∀ t : Fin grid1.N, _)

variable (V : (c : Dev nD) → (b : Ref sig .tc) → Buf (Elt Ideal) ((c : Thread nD τ).loc b))

set_option maxHeartbeats 1000000 in
/-- The result array of the second launch: `mlp` of the ten arrays it reads. -/
theorem mlp_final (c : Dev nD) : (dat1 V c).arrAt 10 cfg1.N
    = mlp (F := Ideal) (V c main_v2_1) (V c main_arg3) (V c main_arg4) (V c main_v3) (V c main_v4) (V c main_v5) (V c main_arg8)
        (V c main_v6) (V c main_v7) (V c main_v8) := by
  have b0 : iblk1 V c 0 t1_0 = V c main_v2_1 := by blk_ext! [iblk1, index1 t1_0]
  have b1 : iblk1 V c 1 t1_0 = V c main_arg3 := by blk_ext! [iblk1, index1 t1_0]
  have b2 : iblk1 V c 2 t1_0 = V c main_arg4 := by blk_ext! [iblk1, index1 t1_0]
  have b3 : iblk1 V c 3 t1_0 = V c main_v3 := by blk_ext! [iblk1, index1 t1_0]
  have b4 : iblk1 V c 4 t1_0 = V c main_v4 := by blk_ext! [iblk1, index1 t1_0]
  have b5 : iblk1 V c 5 t1_0 = V c main_v5 := by blk_ext! [iblk1, index1 t1_0]
  have b6 : iblk1 V c 6 t1_0 = V c main_arg8 := by blk_ext! [iblk1, index1 t1_0]
  have b7 : iblk1 V c 7 t1_0 = V c main_v6 := by blk_ext! [iblk1, index1 t1_0]
  have b8 : iblk1 V c 8 t1_0 = V c main_v7 := by blk_ext! [iblk1, index1 t1_0]
  have b9 : iblk1 V c 9 t1_0 = V c main_v8 := by blk_ext! [iblk1, index1 t1_0]
  refine (dat1 V c).arrAt_eq_of_after_last 10 t1_0 (by decide +kernel) _ fun j => ?_
  rw [after1_10, b0, b1, b2, b3, b4, b5, b6, b7, b8, b9]
  rfl

/-! ## What the host's operations leave -/

variable (m : (ℓ : Loc nD τ sig) → Buf (Elt Ideal) ℓ)

/-- Argument `main_arg2`, the graphs' ids, as launched. -/
abbrev idsOf (c : Dev nD) : IVec S50000 32 := m ((c : Thread nD τ).loc main_arg2)

/-- The padded ids as the first launch reads them: at a row inside the array, the row's id. -/
theorem entry_ids (c : Dev nD) (b : Fin 4) (r : Fin 14504) (h : b.val * 14504 + r.val < 50000) :
    entry0 m c main_v1 (ix3 b 0 r) = idsOf m c (ix1 (⟨b.val * 14504 + r.val, h⟩ : Fin 50000)) := by
  have e : entry0 m c main_v1 = shapeCast S4x1x14504
      (pad S58016 ![0] ![8016] ![0] (idsOf m c) (constantI S_ 32 0#32) pads_S50000_S58016_080160 h_S_) shapeCasts_S58016_S4x1x14504 := by
    unfold_abbrev_sides
    after_results
    rfl
  rw [e]
  pointwise
  exact dif_pos h

/-- A vector as one row, read at a column of the row. -/
theorem asRow512 (x : FVec Ideal S512 .f32) (k : Fin 512) : shapeCast S1x512 x shapeCasts_S512_S1x512 (ix2 0 k) = x (ix1 k) := by
  pointwise
/-- The same at the narrower width. -/
theorem asRow256 (x : FVec Ideal S256 .f32) (k : Fin 256) : shapeCast S1x256 x shapeCasts_S256_S1x256 (ix2 0 k) = x (ix1 k) := by
  pointwise

/-- An argument between the launches is as launched. -/
theorem W4_args (c : Dev nD) (a : Ref sig .tc) (ha : a ∈ argRefs) : W4 m c (Proc.devRef .tc a) = m ((c : Thread nD τ).loc a) :=
  (W4_of m c a (args_in0 a ha)).trans (W3_args m c a ha)

/-- The first bias as the second launch reads it. -/
theorem entry_b1 (c : Dev nD) : entry1 m c main_v3 = shapeCast S1x512 (m ((c : Thread nD τ).loc main_arg5)) shapeCasts_S512_S1x512 := by
  rw [← W4_args m c main_arg5 (by decide)]; unfold_abbrev_sides; after_results; rfl
/-- The first scale. -/
theorem entry_g1 (c : Dev nD) : entry1 m c main_v4 = shapeCast S1x512 (m ((c : Thread nD τ).loc main_arg6)) shapeCasts_S512_S1x512 := by
  rw [← W4_args m c main_arg6 (by decide)]; unfold_abbrev_sides; after_results; rfl
/-- The first shift. -/
theorem entry_e1 (c : Dev nD) : entry1 m c main_v5 = shapeCast S1x512 (m ((c : Thread nD τ).loc main_arg7)) shapeCasts_S512_S1x512 := by
  rw [← W4_args m c main_arg7 (by decide)]; unfold_abbrev_sides; after_results; rfl
/-- The second bias. -/
theorem entry_b2 (c : Dev nD) : entry1 m c main_v6 = shapeCast S1x256 (m ((c : Thread nD τ).loc main_arg9)) shapeCasts_S256_S1x256 := by
  rw [← W4_args m c main_arg9 (by decide)]; unfold_abbrev_sides; after_results; rfl
/-- The second scale. -/
theorem entry_g2 (c : Dev nD) : entry1 m c main_v7 = shapeCast S1x256 (m ((c : Thread nD τ).loc main_arg10)) shapeCasts_S256_S1x256 := by
  rw [← W4_args m c main_arg10 (by decide)]; unfold_abbrev_sides; after_results; rfl
/-- The second shift. -/
theorem entry_e2 (c : Dev nD) : entry1 m c main_v8 = shapeCast S1x256 (m ((c : Thread nD τ).loc main_arg11)) shapeCasts_S256_S1x256 := by
  rw [← W4_args m c main_arg11 (by decide)]; unfold_abbrev_sides; after_results; rfl

/-! ## The results -/

/-- The blocks' sums as the second launch reads them. -/
theorem entry_sums (c : Dev nD) : entry1 m c main_v2_1
    = blockSums (m ((c : Thread nD τ).loc main_arg0)) (m ((c : Thread nD τ).loc main_arg3)) (entry0 m c main_v1) := by
  refine (W5_of m c main_v2_1 (by decide)).trans ((W4_arr m c 4).trans ((sums_final (entry0 m) c).trans ?_))
  rw [show entry0 m c main_arg0 = _ from W3_args m c main_arg0 (by decide), show entry0 m c main_arg3 = _ from W3_args m c main_arg3 (by decide)]

/-- The first result at the end of a run: every row plus the virtual node's. -/
theorem rows_result (c : Dev nD) : W6 m c (Proc.devRef .tc main_v2_0)
    = addRow (m ((c : Thread nD τ).loc main_arg0)) (m ((c : Thread nD τ).loc main_arg3)) := by
  refine (W6_of m c main_v2_0 (by decide)).trans ((W5_of m c main_v2_0 (by decide)).trans ((W4_arr m c 3).trans ((rows_final (entry0 m) c).trans ?_)))
  rw [show entry0 m c main_arg0 = _ from W3_args m c main_arg0 (by decide), show entry0 m c main_arg3 = _ from W3_args m c main_arg3 (by decide)]

/-- The second result at the end of a run: `mlp` of the blocks' sums and the arguments. -/
theorem mlp_result (c : Dev nD) : W6 m c (Proc.devRef .tc main_v9)
    = mlp (F := Ideal) (blockSums (m ((c : Thread nD τ).loc main_arg0)) (m ((c : Thread nD τ).loc main_arg3)) (entry0 m c main_v1))
        (m ((c : Thread nD τ).loc main_arg3)) (m ((c : Thread nD τ).loc main_arg4))
        (shapeCast S1x512 (m ((c : Thread nD τ).loc main_arg5)) shapeCasts_S512_S1x512)
        (shapeCast S1x512 (m ((c : Thread nD τ).loc main_arg6)) shapeCasts_S512_S1x512)
        (shapeCast S1x512 (m ((c : Thread nD τ).loc main_arg7)) shapeCasts_S512_S1x512)
        (m ((c : Thread nD τ).loc main_arg8))
        (shapeCast S1x256 (m ((c : Thread nD τ).loc main_arg9)) shapeCasts_S256_S1x256)
        (shapeCast S1x256 (m ((c : Thread nD τ).loc main_arg10)) shapeCasts_S256_S1x256)
        (shapeCast S1x256 (m ((c : Thread nD τ).loc main_arg11)) shapeCasts_S256_S1x256) := by
  refine (W6_arr m c 10).trans ((mlp_final (entry1 m) c).trans ?_)
  rw [entry_sums, entry_b1, entry_g1, entry_e1, entry_b2, entry_g2, entry_e2,
    show entry1 m c main_arg3 = _ from W5_args m c main_arg3 (by decide), show entry1 m c main_arg4 = _ from W5_args m c main_arg4 (by decide),
    show entry1 m c main_arg8 = _ from W5_args m c main_arg8 (by decide)]

end Cert.KernelIdeal.Pool

end
-- ==== Proof.RefRows.lean ====
/- The reference's two indexed operations read at an entry: the gather of the virtual node's rows, all equal, and the sum
   of the rows that carry a graph's id. -/
module

public import proofs.«01_k».proof.Proof.Gen.ReferenceIdeal
public import Idealize.ShloMosaic.PureOps.Ideal
public import Idealize.ShloMosaic.Lib.Pointwise

@[expose] public section

set_option maxRecDepth 16384

noncomputable section

namespace Cert.ReferenceIdeal.Rows

open Cert.ReferenceIdeal Cert.ReferenceIdeal.Gen
open Idealize.ShloMosaic

/-- The row gather keeps the column: the operand index it reads for `(n, l)` lies in column `l`. -/
theorem gather_col (i : IVec S50000x1 32) (n : Fin 50000) (l : Fin 256) :
    (gather_S128x256_S50000x1_S50000x256_1_0_n_n_0_1_1256.operandIdx (ix2 n l) i 1).val = l.val := by
  change gather_S128x256_S50000x1_S50000x256_1_0_n_n_0_1_1256.start (ix2 n l) i 1
    + gather_S128x256_S50000x1_S50000x256_1_0_n_n_0_1_1256.batchCoord (ix2 n l) 1
    + gather_S128x256_S50000x1_S50000x256_1_0_n_n_0_1_1256.offCoord (ix2 n l) 1 = l.val
  rw [GatherDims.batchCoord_eq_zero _ _ _ List.not_mem_nil]
  unfold GatherDims.start
  rw [dif_neg (show (1 : Fin 2) ∉ gather_S128x256_S50000x1_S50000x256_1_0_n_n_0_1_1256.startIndexMap from by decide)]
  simp only [Nat.add_zero, Nat.zero_add]
  rfl

/-- A gather of rows from a table all of whose rows are `v` reads `v`, whatever the row numbers. -/
theorem gather_const {α : Type} (x : S128x256.Idx → α) (v : Fin 256 → α) (hx : ∀ (g : Fin 128) (l : Fin 256), x (ix2 g l) = v l)
    (i : IVec S50000x1 32) (n : Fin 50000) (l : Fin 256) :
    Host.gather gather_S128x256_S50000x1_S50000x256_1_0_n_n_0_1_1256 x i (ix2 n l) = v l := by
  unfold Host.gather
  generalize hk : gather_S128x256_S50000x1_S50000x256_1_0_n_n_0_1_1256.operandIdx (ix2 n l) i = k
  have hl : k 1 = l := Fin.ext (by rw [← hk]; exact gather_col i n l)
  exact (congrArg x ((eq_ix2 k).trans (by rw [hl]))).trans (hx (k 0) l)

/-- The row `(n, l)` of the updates lands at `(g, l')` exactly when its id, read signed, is `g` and `l = l'`. -/
theorem lands_iff (i : IVec S50000x1 32) (n : Fin 50000) (l l' : Fin 256) (g : Fin 128) :
    scatter_S128x256_S50000x1_S50000x256_1_0_0_1.resultIdx? (ix2 n l) i = some (ix2 g l')
      ↔ (i (ix2 n 0)).toInt = (g.val : ℤ) ∧ l = l' := by
  have s0 : scatter_S128x256_S50000x1_S50000x256_1_0_0_1.start (ix2 n l) i 0 = (i (ix2 n 0)).toInt := by
    unfold ScatterDims.start
    rw [dif_pos (show (0 : Fin 2) ∈ scatter_S128x256_S50000x1_S50000x256_1_0_0_1.scatterDimsToOperandDims from by decide)]
    congr 2
    funext b; refine Fin.ext ?_
    match b with
    | ⟨0, _⟩ => rfl
    | ⟨1, _⟩ => rfl
  have s1 : scatter_S128x256_S50000x1_S50000x256_1_0_0_1.start (ix2 n l) i 1 = 0 := by
    unfold ScatterDims.start
    rw [dif_neg (show (1 : Fin 2) ∉ scatter_S128x256_S50000x1_S50000x256_1_0_0_1.scatterDimsToOperandDims from by decide)]
  have w0 : scatter_S128x256_S50000x1_S50000x256_1_0_0_1.window (ix2 n l) 0 = 0 := rfl
  have w1 : scatter_S128x256_S50000x1_S50000x256_1_0_0_1.window (ix2 n l) 1 = l.val := rfl
  unfold ScatterDims.resultIdx?
  constructor
  · intro h
    split at h
    · rename_i hb
      have e := Option.some.inj h
      have e0 := congrArg Fin.val (congrFun e 0)
      have e1 := congrArg Fin.val (congrFun e 1)
      have b0 := hb 0
      simp only [s0, w0] at e0 b0
      simp only [s1, w1] at e1
      refine ⟨?_, Fin.ext ?_⟩
      · have : ((i (ix2 n 0)).toInt + ((0 : ℕ) : ℤ)).toNat = g.val := e0
        omega
      · have : ((0 : ℤ) + ((l.val : ℕ) : ℤ)).toNat = l'.val := e1
        omega
    · exact absurd h (by simp)
  · rintro ⟨hg, rfl⟩
    have hgl := g.isLt
    have hll := l.isLt
    rw [dif_pos]
    · congr 1
      funext a; refine Fin.ext ?_
      match a with
      | ⟨0, _⟩ =>
        change (scatter_S128x256_S50000x1_S50000x256_1_0_0_1.start (ix2 n l) i 0
          + scatter_S128x256_S50000x1_S50000x256_1_0_0_1.window (ix2 n l) 0).toNat = g.val
        rw [s0, w0, hg]; omega
      | ⟨1, _⟩ =>
        change (scatter_S128x256_S50000x1_S50000x256_1_0_0_1.start (ix2 n l) i 1
          + scatter_S128x256_S50000x1_S50000x256_1_0_0_1.window (ix2 n l) 1).toNat = l.val
        rw [s1, w1]; omega
    · intro a
      match a with
      | ⟨0, _⟩ =>
        change 0 ≤ scatter_S128x256_S50000x1_S50000x256_1_0_0_1.start (ix2 n l) i 0
          + scatter_S128x256_S50000x1_S50000x256_1_0_0_1.window (ix2 n l) 0
          ∧ scatter_S128x256_S50000x1_S50000x256_1_0_0_1.start (ix2 n l) i 0
          + scatter_S128x256_S50000x1_S50000x256_1_0_0_1.window (ix2 n l) 0 < (128 : ℕ)
        rw [s0, w0, hg]; omega
      | ⟨1, _⟩ =>
        change 0 ≤ scatter_S128x256_S50000x1_S50000x256_1_0_0_1.start (ix2 n l) i 1
          + scatter_S128x256_S50000x1_S50000x256_1_0_0_1.window (ix2 n l) 1
          ∧ scatter_S128x256_S50000x1_S50000x256_1_0_0_1.start (ix2 n l) i 1
          + scatter_S128x256_S50000x1_S50000x256_1_0_0_1.window (ix2 n l) 1 < (256 : ℕ)
        rw [s1, w1]; omega

/-- An accumulating scatter of rows at an entry: the operand's entry plus the sum, over the rows whose id is the graph's,
    of their entries in that column. -/
theorem scatter_at (x : FVec Ideal S128x256 .f32) (i : IVec S50000x1 32) (u : FVec Ideal S50000x256 .f32) (g : Fin 128) (l : Fin 256) :
    Host.scatterAdd scatter_S128x256_S50000x1_S50000x256_1_0_0_1 x i u (ix2 g l)
      = x (ix2 g l) + ∑ n : Fin 50000, if (i (ix2 n 0)).toInt = (g.val : ℤ) then u (ix2 n l) else (0 : EReal) := by
  unfold Host.scatterAdd
  rw [Ideal.hostScatterAdd_def]
  unfold Ideal.hostScatterAdd
  refine congrArg (x (ix2 g l) + ·) ?_
  rw [← Finset.sum_filter]
  refine (Finset.sum_bij (fun (n : Fin 50000) _ => (ix2 n l : S50000x256.Idx)) ?_ ?_ ?_ ?_).symm
  · intro n hn
    exact Finset.mem_filter.mpr ⟨Finset.mem_univ _, (lands_iff i n l l g).mpr ⟨(Finset.mem_filter.mp hn).2, rfl⟩⟩
  · intro a _ b _ h
    exact congrFun h 0
  · intro j hj
    have hj2 := (Finset.mem_filter.mp hj).2
    rw [eq_ix2 j] at hj2
    obtain ⟨h1, h2⟩ := (lands_iff i (j 0) (j 1) l g).mp hj2
    exact ⟨j 0, Finset.mem_filter.mpr ⟨Finset.mem_univ _, h1⟩, by rw [← h2]; exact (eq_ix2 j).symm⟩
  · intro n _; rfl

end Cert.ReferenceIdeal.Rows

end
-- ==== Proof.RefValue.lean ====
/- What the reference's two results are at an entry: `h` adds the virtual node's row to every row, and `t` is two layers over
   the sums of the rows of each graph. -/
module

public import proofs.«01_k».proof.Proof.RefRows
public import proofs.«01_k».proof.Proof.Gen.ReferenceIdeal.Run

@[expose] public section

set_option maxRecDepth 16384

noncomputable section

namespace Cert.ReferenceIdeal.Rows

open Cert.ReferenceIdeal Cert.ReferenceIdeal.Gen
open Idealize.ShloMosaic Idealize.ShloMosaic.TcCoe

/-- The virtual node's row, one copy per graph. -/
def table (vn : FVec Ideal S1x256 .f32) : FVec Ideal S128x256 .f32 :=
  broadcastInDim S128x256 ![1] bcast_S256_S128x256_1 (shapeCast _ vn shapeCasts_S1x256_S256)

/-- The first result: every row plus the row gathered for it. -/
def nodes (x : FVec Ideal S50000x256 .f32) (ids : IVec S50000 32) (vn : FVec Ideal S1x256 .f32) : FVec Ideal S50000x256 .f32 :=
  addf x (Host.gather gather_S128x256_S50000x1_S50000x256_1_0_n_n_0_1_1256 (table vn)
    (broadcastInDim S50000x1 ![0] bcast_S50000_S50000x1_0
      (select (cmpi .slt ids (broadcastInDim S50000 ![] bcast_S_S50000 (constantI S_ 32 0#32)))
        (addi ids (broadcastInDim S50000 ![] bcast_S_S50000 (constantI S_ 32 128#32))) ids)))

/-- The pooled rows: the sum of each graph's rows, plus the virtual node's row. -/
def pooled (x : FVec Ideal S50000x256 .f32) (ids : IVec S50000 32) (vn : FVec Ideal S1x256 .f32) : FVec Ideal S128x256 .f32 :=
  addf (Host.scatterAdd scatter_S128x256_S50000x1_S50000x256_1_0_0_1
    (broadcastInDim S128x256 ![] bcast_S_S128x256 (constant S_ .f32 0x00000000#32))
    (broadcastInDim S50000x1 ![0] bcast_S50000_S50000x1_0 ids) (nodes x ids vn)) (table vn)

/-- The first layer over a matrix of pooled rows. -/
def hidden (p : FVec Ideal S128x256 .f32) (w1 : FVec Ideal S256x512 .f32) (b1 g1 e1 : FVec Ideal S512 .f32) : FVec Ideal S128x512 .f32 :=
  maximumf (addf (mulf (Host.divf (addf (Host.dotGeneral dot_S128x256_S256x512_S128x512_1_0_0_1_n_n none p w1)
      (broadcastInDim S128x512 ![0, 1] bcast_S1x512_S128x512_0_1 (broadcastInDim S1x512 ![1] bcast_S512_S1x512_1 b1)))
      (broadcastInDim S128x512 ![] bcast_S_S128x512 (id (Host.sqrt (constant S_ .f32 0x3F800054#32)))))
      (broadcastInDim S128x512 ![0, 1] bcast_S1x512_S128x512_0_1 (broadcastInDim S1x512 ![1] bcast_S512_S1x512_1 g1)))
      (broadcastInDim S128x512 ![0, 1] bcast_S1x512_S128x512_0_1 (broadcastInDim S1x512 ![1] bcast_S512_S1x512_1 e1)))
    (broadcastInDim S128x512 ![] bcast_S_S128x512 (constant S_ .f32 0x00000000#32))

/-- The second layer over the first's result. -/
def output (q : FVec Ideal S128x512 .f32) (w2 : FVec Ideal S512x256 .f32) (b2 g2 e2 : FVec Ideal S256 .f32) : FVec Ideal S128x256 .f32 :=
  maximumf (addf (mulf (Host.divf (addf (Host.dotGeneral dot_S128x512_S512x256_S128x256_1_0_0_1_n_n none q w2)
      (broadcastInDim S128x256 ![0, 1] bcast_S1x256_S128x256_0_1 (broadcastInDim S1x256 ![1] bcast_S256_S1x256_1 b2)))
      (broadcastInDim S128x256 ![] bcast_S_S128x256 (id (Host.sqrt (constant S_ .f32 0x3F800054#32)))))
      (broadcastInDim S128x256 ![0, 1] bcast_S1x256_S128x256_0_1 (broadcastInDim S1x256 ![1] bcast_S256_S1x256_1 g2)))
      (broadcastInDim S128x256 ![0, 1] bcast_S1x256_S128x256_0_1 (broadcastInDim S1x256 ![1] bcast_S256_S1x256_1 e2)))
    (broadcastInDim S128x256 ![] bcast_S_S128x256 (constant S_ .f32 0x00000000#32))

/-- Every row of the table is the virtual node's row. -/
theorem table_at (vn : FVec Ideal S1x256 .f32) (g : Fin 128) (l : Fin 256) : table vn (ix2 g l) = vn (ix2 0 l) := by
  pointwise [table]

/-- `h` at an entry. -/
theorem nodes_at (x : FVec Ideal S50000x256 .f32) (ids : IVec S50000 32) (vn : FVec Ideal S1x256 .f32) (n : Fin 50000) (l : Fin 256) :
    nodes x ids vn (ix2 n l) = (x (ix2 n l) + vn (ix2 0 l) : EReal) := by
  unfold nodes
  generalize (broadcastInDim S50000x1 ![0] bcast_S50000_S50000x1_0
      (select (cmpi .slt ids (broadcastInDim S50000 ![] bcast_S_S50000 (constantI S_ 32 0#32)))
        (addi ids (broadcastInDim S50000 ![] bcast_S_S50000 (constantI S_ 32 128#32))) ids)) = i
  exact congrArg (fun e : EReal => x (ix2 n l) + e) (gather_const (table vn) (fun l => vn (ix2 0 l)) (table_at vn) i n l)

/-- The pooled rows at an entry. -/
theorem pooled_at (x : FVec Ideal S50000x256 .f32) (ids : IVec S50000 32) (vn : FVec Ideal S1x256 .f32) (g : Fin 128) (l : Fin 256) :
    pooled x ids vn (ix2 g l)
      = ((∑ n : Fin 50000, if (ids (ix1 n)).toInt = (g.val : ℤ) then x (ix2 n l) + vn (ix2 0 l) else (0 : EReal)) + vn (ix2 0 l) : EReal) := by
  unfold pooled
  refine (congrArg₂ (fun a b : EReal => a + b) (scatter_at _ _ _ g l) (table_at vn g l)).trans ?_
  have z : (broadcastInDim S128x256 ![] bcast_S_S128x256 (constant (F := Ideal) S_ .f32 0x00000000#32)) (ix2 g l) = (0 : EReal) := by
    pointwise []
  rw [z, zero_add]
  refine congrArg (fun a : EReal => a + vn (ix2 0 l)) (Finset.sum_congr rfl fun n _ => ?_)
  have hi : broadcastInDim S50000x1 ![0] bcast_S50000_S50000x1_0 ids (ix2 n 0) = ids (ix1 n) := by pointwise []
  rw [hi, nodes_at]

/-- The first layer at an entry. -/
theorem hidden_at (p : FVec Ideal S128x256 .f32) (w1 : FVec Ideal S256x512 .f32) (b1 g1 e1 : FVec Ideal S512 .f32) (g : Fin 128) (k : Fin 512) :
    hidden p w1 b1 g1 e1 (ix2 g k) = (max (Ideal.div ((∑ l : Fin 256, p (ix2 g l) * w1 (ix2 l k)) + b1 (ix1 k))
      (Ideal.sqrt (Ideal.ofBits .f32 0x3F800054#32)) * g1 (ix1 k) + e1 (ix1 k)) 0 : EReal) := by
  pointwise [hidden]
  rfl

/-- The second layer at an entry. -/
theorem output_at (q : FVec Ideal S128x512 .f32) (w2 : FVec Ideal S512x256 .f32) (b2 g2 e2 : FVec Ideal S256 .f32) (g : Fin 128) (l : Fin 256) :
    output q w2 b2 g2 e2 (ix2 g l) = (max (Ideal.div ((∑ k : Fin 512, q (ix2 g k) * w2 (ix2 k l)) + b2 (ix1 l))
      (Ideal.sqrt (Ideal.ofBits .f32 0x3F800054#32)) * g2 (ix1 l) + e2 (ix1 l)) 0 : EReal) := by
  pointwise [output]
  rfl

end Cert.ReferenceIdeal.Rows

end
-- ==== Proof.Scale.lean ====
/- The normalisation's constant: the reference divides by the root of the binary fraction nearest `1.00001`, the kernel
   multiplies the scale vector by that root's reciprocal. Over the extended reals the two agree. -/
module

public import Idealize.ShloMosaic.PureOps.Ideal

@[expose] public section

noncomputable section

namespace Cert.Scale

open Idealize.ShloMosaic

/-- The pattern the reference takes the root of denotes `2097173 / 2097152`. -/
theorem ofBits_eps : Ideal.ofBits .f32 0x3F800054#32 = ((2097173 / 2097152 : ℝ) : EReal) := by
  simp [Ideal.ofBits, Ideal.ieee, -EReal.coe_mul]; norm_num

/-- Dividing by the root and then scaling by `g` is multiplying by `g` times the root's reciprocal. -/
theorem div_mul (a g : EReal) :
    Ideal.div a (Ideal.sqrt (Ideal.ofBits .f32 0x3F800054#32)) * g
      = a * (g * (((Real.sqrt (2097173 / 2097152))⁻¹ : ℝ) : EReal)) := by
  rw [ofBits_eps, Ideal.sqrt_coe, if_neg (by norm_num), Ideal.div_coe (Real.sqrt_pos.mpr (by norm_num)).ne', one_div,
    mul_assoc, mul_comm g]

end Cert.Scale

end
-- ==== Proof.Blocks.lean ====
/- A sum over rows cut into blocks that reach past the last row, and an id's word against the number it spells. -/
module

public import Idealize.ShloMosaic.Lib.Pointwise

@[expose] public section

namespace Cert.Blocks

/-- Padding a sum's terms with zeros past the `n`-th changes nothing. -/
theorem sum_padded {M : Type*} [AddCommMonoid M] (n p : ℕ) (f : Fin n → M) :
    (∑ k : Fin (n + p), if h : k.val < n then f ⟨k.val, h⟩ else 0) = ∑ k : Fin n, f k := by
  rw [Fin.sum_univ_add, Finset.sum_eq_zero (s := Finset.univ (α := Fin p)), add_zero]
  · exact Finset.sum_congr rfl fun k _ => dif_pos (by rw [Fin.val_castAdd]; exact k.isLt)
  · exact fun k _ => dif_neg (by rw [Fin.val_natAdd]; omega)

/-- A sum over `n` rows, taken block by block over `J` blocks of `T` rows of which the last reach past row `n`. -/
theorem sum_blocks {M : Type*} [AddCommMonoid M] (J T n p : ℕ) (hN : J * T = n + p) (f : Fin n → M) :
    (∑ b : Fin J, ∑ r : Fin T, if h : b.val * T + r.val < n then f ⟨b.val * T + r.val, h⟩ else 0) = ∑ k : Fin n, f k :=
  (Idealize.ShloMosaic.Fin.sum_univ_tiles J T hN fun k : Fin (n + p) => if h : k.val < n then f ⟨k.val, h⟩ else 0).symm.trans (sum_padded n p f)

/-- A word is the word of a number below `2 ^ 31` exactly when it spells that number as a signed integer. -/
theorem eq_ofNat_iff (b : BitVec 32) (g : ℕ) (hg : g < 2 ^ 31) : b = BitVec.ofNat 32 g ↔ b.toInt = (g : ℤ) := by
  have e : (BitVec.ofNat 32 g).toInt = (g : ℤ) := by
    rw [BitVec.toInt_eq_toNat_of_lt (by rw [BitVec.toNat_ofNat]; omega), BitVec.toNat_ofNat, Nat.mod_eq_of_lt (by omega)]
  exact ⟨fun h => h ▸ e, fun h => BitVec.eq_of_toInt_eq (h.trans e.symm)⟩

end Cert.Blocks
-- ==== Proof.Agree.lean ====
/- The kernel's two results equal the reference's, as functions of the arguments. -/
module

public import proofs.«01_k».proof.Proof.IdealResult
public import proofs.«01_k».proof.Proof.RefValue
public import proofs.«01_k».proof.Proof.Scale
public import proofs.«01_k».proof.Proof.Blocks

@[expose] public section

set_option maxRecDepth 16384

noncomputable section

namespace Cert.Agree

open Cert.KernelIdeal Cert.KernelIdeal.Gen Cert.KernelIdeal.Pool
open Cert.ReferenceIdeal.Rows (nodes pooled hidden output nodes_at pooled_at hidden_at output_at)
open Idealize.ShloMosaic Idealize.ShloMosaic.TcCoe

/-- The first result: the row the reference gathers for a node is always the virtual node's. -/
theorem rows_eq (x : FVec Ideal S50000x256 .f32) (ids : IVec S50000 32) (vn : FVec Ideal S1x256 .f32) :
    nodes x ids vn = addRow x vn := by
  funext i
  rw [eq_ix2 i]
  exact nodes_at x ids vn (i 0) (i 1)

/-- The pooled rows: the sum over the blocks of the blocks' sums is the sum over the graph's rows. -/
theorem pooled_eq (x : FVec Ideal S50000x256 .f32) (ids : IVec S50000 32) (vn : FVec Ideal S1x256 .f32) (padded : IVec S4x1x14504 32)
    (hp : ∀ (b : Fin 4) (r : Fin 14504) (h : b.val * 14504 + r.val < 50000), padded (ix3 b 0 r) = ids (ix1 (⟨b.val * 14504 + r.val, h⟩ : Fin 50000)))
    (g : Fin 128) (l : Fin 256) : pooledOf (blockSums x vn padded) vn g l = pooled x ids vn (ix2 g l) := by
  rw [pooled_at]
  refine congrArg (fun e : EReal => e + vn (ix2 0 l)) ?_
  refine Eq.trans ?_ (Blocks.sum_blocks 4 14504 50000 8016 rfl _)
  refine Finset.sum_congr rfl fun b _ => Finset.sum_congr rfl fun r _ => ?_
  refine dite_congr rfl (fun h => ?_) fun _ => rfl
  rw [show padded (ix3 ((ix3 b g l : S4x128x256.Idx) 0) 0 r) = _ from hp b r h]
  exact if_congr (Blocks.eq_ofNat_iff _ g.val (by omega)) rfl rfl

/-- The first layer, at an entry: dividing by a root and then scaling is scaling by the root's reciprocal. -/
theorem hidden_eq (p : FVec Ideal S128x256 .f32) (w1 : FVec Ideal S256x512 .f32) (b1 g1 e1 : FVec Ideal S512 .f32) (g : Fin 128) (k : Fin 512) :
    hiddenOf (fun g l => p (ix2 g l)) w1 (shapeCast S1x512 b1 shapeCasts_S512_S1x512) (shapeCast S1x512 g1 shapeCasts_S512_S1x512)
      (shapeCast S1x512 e1 shapeCasts_S512_S1x512) g k = hidden p w1 b1 g1 e1 (ix2 g k) := by
  rw [hidden_at, Scale.div_mul]
  unfold hiddenOf
  rw [asRow512, asRow512, asRow512]

/-- The second result. -/
theorem mlp_eq (x : FVec Ideal S50000x256 .f32) (ids : IVec S50000 32) (vn : FVec Ideal S1x256 .f32) (w1 : FVec Ideal S256x512 .f32)
    (b1 g1 e1 : FVec Ideal S512 .f32) (w2 : FVec Ideal S512x256 .f32) (b2 g2 e2 : FVec Ideal S256 .f32) (padded : IVec S4x1x14504 32)
    (hp : ∀ (b : Fin 4) (r : Fin 14504) (h : b.val * 14504 + r.val < 50000), padded (ix3 b 0 r) = ids (ix1 (⟨b.val * 14504 + r.val, h⟩ : Fin 50000))) :
    output (hidden (pooled x ids vn) w1 b1 g1 e1) w2 b2 g2 e2
      = mlp (F := Ideal) (blockSums x vn padded) vn w1 (shapeCast S1x512 b1 shapeCasts_S512_S1x512) (shapeCast S1x512 g1 shapeCasts_S512_S1x512)
          (shapeCast S1x512 e1 shapeCasts_S512_S1x512) w2 (shapeCast S1x256 b2 shapeCasts_S256_S1x256)
          (shapeCast S1x256 g2 shapeCasts_S256_S1x256) (shapeCast S1x256 e2 shapeCasts_S256_S1x256) := by
  funext i
  obtain ⟨g, o, rfl⟩ : ∃ (g : Fin 128) (o : Fin 256), i = ix2 g o := ⟨i 0, i 1, eq_ix2 i⟩
  have e : pooledOf (blockSums x vn padded) vn = fun g l => pooled x ids vn (ix2 g l) :=
    funext fun g => funext fun l => pooled_eq x ids vn padded hp g l
  refine (output_at _ w2 b2 g2 e2 g o).trans (Eq.trans ?_ (mlp_at _ _ _ _ _ _ _ _ _ _ g o).symm)
  rw [Scale.div_mul, e, asRow256, asRow256, asRow256]
  simp only [hidden_eq]

end Cert.Agree

end
-- ==== Proof.lean ====
module

public import proofs.«01_k».proof.Defs
public import proofs.«01_k».proof.Proof.WordRun
public import proofs.«01_k».proof.Proof.IdealRun
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed runs without a fault, leaves its arguments, and ends with every counter at zero. -/
theorem frame_kernel : Cert.quiescent_Kernel := fun m g _ => Cert.Kernel.Pool.frame m g

/-- So does the idealized kernel, -/
theorem frame_ideal : Cert.quiescent_KernelIdeal := fun m g _ => Cert.KernelIdeal.Pool.frame m g

/-- and so does the idealized reference. -/
theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- The constant the kernel spells for the normalisation's reciprocal root is named the real it stands for. -/
theorem preserves : Cert.preserves_Kernel_KernelIdeal :=
  IdealRules.named_const.statement Cert.KernelIdeal.κ "inv" .f32 0x3F7FFFAC#32 (((Real.sqrt (2097173 / 2097152))⁻¹ : ℝ) : EReal) rfl

section

open Idealize.ShloMosaic.TcCoe

/-- From memories agreeing on the arguments the idealized kernel and the idealized reference end with equal results: both of the
    kernel's, read off its run's last contents, are the reference's composed terms. -/
theorem algebraic : Cert.algebraic_KernelIdeal_ReferenceIdeal := by
  intro m g m' g' _ hagree
  refine ⟨fun c => Cert.KernelIdeal.Pool.W6 m c (Proc.devRef .tc Cert.KernelIdeal.main_v2_0),
    fun c => Cert.KernelIdeal.Pool.W6 m c (Proc.devRef .tc Cert.KernelIdeal.main_v9), ?_, ?_⟩
  · exact (θ_run Cert.KernelIdeal.defs _ _).mono (fun r h c =>
      ⟨h.1.1 c _ (Cert.KernelIdeal.Pool.mem_held _ (by decide)), h.1.1 c _ (Cert.KernelIdeal.Pool.mem_held _ (by decide)), h.2.1 c⟩)
      (θ_run_and (Cert.KernelIdeal.Pool.run_held m g) (Cert.KernelIdeal.Pool.frame m g))
  · refine (θ_run Cert.ReferenceIdeal.defs _ _).mono (fun r h c => ?_) (Cert.ReferenceIdeal.Value.run (F := Ideal) m' g')
    obtain ⟨h0, h1, hargs⟩ := h c
    obtain ⟨a0, a1, a2, a3, a4, a5, a6, a7, a8, a9, a10, a11⟩ := hagree c
    refine ⟨h0.trans ?_, h1.trans ?_, hargs⟩
    · rw [a0, a2, a3]
      exact (Cert.Agree.rows_eq _ _ _).trans (Cert.KernelIdeal.Pool.rows_result m c).symm
    · rw [a0, a2, a3, a4, a5, a6, a7, a8, a9, a10, a11]
      exact (Cert.Agree.mlp_eq _ _ _ _ _ _ _ _ _ _ _ _ (Cert.KernelIdeal.Pool.entry_ids m c)).trans (Cert.KernelIdeal.Pool.mlp_result m c).symm

end

theorem claim : Cert.Claim := ⟨Cert.Kernel.Gen.facts, Cert.KernelIdeal.Gen.facts, Cert.ReferenceIdeal.Gen.facts,
  frame_kernel, frame_ideal, frame_reference, preserves, algebraic⟩

end Cert.Proof

end
